-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x8192 : Shape := ⟨2, ![4096, 8192]⟩
abbrev S4096x2048 : Shape := ⟨2, ![4096, 2048]⟩
abbrev S2x4096x512 : Shape := ⟨3, ![2, 4096, 512]⟩
abbrev S8x1024x1024 : Shape := ⟨3, ![8, 1024, 1024]⟩
abbrev S2 : Shape := ⟨1, ![2]⟩
abbrev S6 : Shape := ⟨1, ![6]⟩
abbrev S_ : Shape := ⟨0, ![]⟩
abbrev S1 : Shape := ⟨1, ![1]⟩
abbrev S1x4096x512 : Shape := ⟨3, ![1, 4096, 512]⟩
abbrev S4096x512 : Shape := ⟨2, ![4096, 512]⟩
abbrev S1024x512 : Shape := ⟨2, ![1024, 512]⟩
abbrev S1x1024x512 : Shape := ⟨3, ![1, 1024, 512]⟩
abbrev S1024x1024 : Shape := ⟨2, ![1024, 1024]⟩
abbrev S1x1024x1024 : Shape := ⟨3, ![1, 1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1024x4096, .bf16⟩
  | .hbm, ⟨1, _⟩ => ⟨S4096x8192, .f32⟩
  | .hbm, ⟨2, _⟩ => ⟨S4096x2048, .bf16⟩
  | .local _ .vmem, ⟨0, _⟩ => ⟨S1024x4096, .bf16⟩
  | .local _ .vmem, ⟨1, _⟩ => ⟨S2x4096x512, .f32⟩
  | .local _ .vmem, ⟨2, _⟩ => ⟨S8x1024x1024, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v15 : BitVec 32 := Scalar.addi v2 c1_i32_5
  let c4_i32_6 : BitVec 32 := 4#32
  let c0_i32_7 : BitVec 32 := 0#32
  let v16 : BitVec 1 := Scalar.cmpi .eq c4_i32_6 c0_i32_7
  let c1_i32_8 : BitVec 32 := 1#32
  let v17 : BitVec 32 := Scalar.select v16 c1_i32_8 c4_i32_6
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c1_i32_13 : BitVec 32 := 1#32
  let v26 : BitVec 32 := Scalar.muli v25 c1_i32_13
  let v27 : BitVec 32 := Scalar.addi c0_i32_14 v26
  v27.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_15 : BitVec 32 := 2#32
  let v28 : BitVec 32 := Scalar.addi v2 c2_i32_15
  let c4_i32_16 : BitVec 32 := 4#32
  let c0_i32_17 : BitVec 32 := 0#32
  let v29 : BitVec 1 := Scalar.cmpi .eq c4_i32_16 c0_i32_17
  let c1_i32_18 : BitVec 32 := 1#32
  let v30 : BitVec 32 := Scalar.select v29 c1_i32_18 c4_i32_16
  let v31 : BitVec 32 := Scalar.remsi v28 v30
  let c0_i32_20 : BitVec 32 := 0#32
  let v33 : BitVec 1 := Scalar.cmpi .slt v31 c0_i32_20
  let c0_i32_21 : BitVec 32 := 0#32
  let v34 : BitVec 1 := Scalar.cmpi .slt v30 c0_i32_21
  let v35 : BitVec 1 := Scalar.xori v33 v34
  let c0_i32_19 : BitVec 32 := 0#32
  let v32 : BitVec 1 := Scalar.cmpi .ne v31 c0_i32_19
  let v36 : BitVec 1 := Scalar.andi v35 v32
  let v37 : BitVec 32 := Scalar.addi v31 v30
  let v38 : BitVec 32 := Scalar.select v36 v37 v31
  let c1_i32_23 : BitVec 32 := 1#32
  let v39 : BitVec 32 := Scalar.muli v38 c1_i32_23
  let v40 : BitVec 32 := Scalar.addi c0_i32_24 v39
  v40.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v41 : BitVec 32 := Scalar.addi v2 c3_i32
  let c4_i32_25 : BitVec 32 := 4#32
  let c0_i32_26 : BitVec 32 := 0#32
  let v42 : BitVec 1 := Scalar.cmpi .eq c4_i32_25 c0_i32_26
  let c1_i32_27 : BitVec 32 := 1#32
  let v43 : BitVec 32 := Scalar.select v42 c1_i32_27 c4_i32_25
  let v44 : BitVec 32 := Scalar.remsi v41 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c1_i32_32 : BitVec 32 := 1#32
  let v52 : BitVec 32 := Scalar.muli v51 c1_i32_32
  let v53 : BitVec 32 := Scalar.addi c0_i32_33 v52
  v53.toNat
def k0_off1 (d0 : Dev nD) (c3_i32_34 : BitVec 32) (c1_i32_35 : BitVec 32) (c0_i32_42 : BitVec 32) : Fin 2 → Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v54 : BitVec 32 := Scalar.select v13 c3_i32_34 c1_i32_35
  let v55 : BitVec 32 := Scalar.addi v2 v54
  let c4_i32_36 : BitVec 32 := 4#32
  let c0_i32_37 : BitVec 32 := 0#32
  let v56 : BitVec 1 := Scalar.cmpi .eq c4_i32_36 c0_i32_37
  let c1_i32_38 : BitVec 32 := 1#32
  let v57 : BitVec 32 := Scalar.select v56 c1_i32_38 c4_i32_36
  let v58 : BitVec 32 := Scalar.remsi v55 v57
  let c0_i32_40 : BitVec 32 := 0#32
  let v60 : BitVec 1 := Scalar.cmpi .slt v58 c0_i32_40
  let c0_i32_41 : BitVec 32 := 0#32
  let v61 : BitVec 1 := Scalar.cmpi .slt v57 c0_i32_41
  let v62 : BitVec 1 := Scalar.xori v60 v61
  let c0_i32_39 : BitVec 32 := 0#32
  let v59 : BitVec 1 := Scalar.cmpi .ne v58 c0_i32_39
  let v63 : BitVec 1 := Scalar.andi v62 v59
  let v64 : BitVec 32 := Scalar.addi v58 v57
  let v65 : BitVec 32 := Scalar.select v63 v64 v58
  let c2048_i32 : BitVec 32 := 2048#32
  let v66 : BitVec 32 := Scalar.muli v65 c2048_i32
  let v67 : BitVec 32 := Scalar.addi v66 c0_i32_42
  ![0, v67.toNat]
def k0_off1_at (r : Fin 12) : BitVec 32 × BitVec 32 × BitVec 32 :=
  if r.val < 6 then
    if r.val < 3 then
      if r.val < 1 then
        (3#32, 1#32, 0#32)
      else
        if r.val < 2 then
          (3#32, 1#32, 512#32)
        else
          (3#32, 1#32, 1024#32)
    else
      if r.val < 4 then
        (3#32, 1#32, 1536#32)
      else
        if r.val < 5 then
          (2#32, 2#32, 0#32)
        else
          (2#32, 2#32, 512#32)
  else
    if r.val < 9 then
      if r.val < 7 then
        (2#32, 2#32, 1024#32)
      else
        if r.val < 8 then
          (2#32, 2#32, 1536#32)
        else
          (1#32, 3#32, 0#32)
    else
      if r.val < 10 then
        (1#32, 3#32, 512#32)
      else
        if r.val < 11 then
          (1#32, 3#32, 1024#32)
        else
          (1#32, 3#32, 1536#32)
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_121 : BitVec 32 := 1024#32
  let v169 : BitVec 32 := Scalar.muli v2 c1024_i32_121
  let c0_i32_135 : BitVec 32 := 0#32
  ![v169.toNat, 0]
def k0_dev4 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c3_i32_122 : BitVec 32 := 3#32
  let c1_i32_123 : BitVec 32 := 1#32
  let v170 : BitVec 32 := Scalar.select v13 c3_i32_122 c1_i32_123
  let v171 : BitVec 32 := Scalar.addi v2 v170
  let c4_i32_124 : BitVec 32 := 4#32
  let c0_i32_125 : BitVec 32 := 0#32
  let v172 : BitVec 1 := Scalar.cmpi .eq c4_i32_124 c0_i32_125
  let c1_i32_126 : BitVec 32 := 1#32
  let v173 : BitVec 32 := Scalar.select v172 c1_i32_126 c4_i32_124
  let v174 : BitVec 32 := Scalar.remsi v171 v173
  let c0_i32_128 : BitVec 32 := 0#32
  let v176 : BitVec 1 := Scalar.cmpi .slt v174 c0_i32_128
  let c0_i32_129 : BitVec 32 := 0#32
  let v177 : BitVec 1 := Scalar.cmpi .slt v173 c0_i32_129
  let v178 : BitVec 1 := Scalar.xori v176 v177
  let c0_i32_127 : BitVec 32 := 0#32
  let v175 : BitVec 1 := Scalar.cmpi .ne v174 c0_i32_127
  let v179 : BitVec 1 := Scalar.andi v178 v175
  let v180 : BitVec 32 := Scalar.addi v174 v173
  let v181 : BitVec 32 := Scalar.select v179 v180 v174
  let c1_i32_133 : BitVec 32 := 1#32
  let v182 : BitVec 32 := Scalar.muli v181 c1_i32_133
  let v183 : BitVec 32 := Scalar.addi c0_i32_134 v182
  v183.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_215 : BitVec 32 := 1024#32
  let v287 : BitVec 32 := Scalar.muli v2 c1024_i32_215
  let c1024_i32_229 : BitVec 32 := 1024#32
  ![v287.toNat, 1024]
def k0_dev5 (d0 : Dev nD) : Nat :=
  let c0_i32_228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c3_i32_216 : BitVec 32 := 3#32
  let c1_i32_217 : BitVec 32 := 1#32
  let v288 : BitVec 32 := Scalar.select v13 c3_i32_216 c1_i32_217
  let v289 : BitVec 32 := Scalar.addi v2 v288
  let c4_i32_218 : BitVec 32 := 4#32
  let c0_i32_219 : BitVec 32 := 0#32
  let v290 : BitVec 1 := Scalar.cmpi .eq c4_i32_218 c0_i32_219
  let c1_i32_220 : BitVec 32 := 1#32
  let v291 : BitVec 32 := Scalar.select v290 c1_i32_220 c4_i32_218
  let v292 : BitVec 32 := Scalar.remsi v289 v291
  let c0_i32_222 : BitVec 32 := 0#32
  let v294 : BitVec 1 := Scalar.cmpi .slt v292 c0_i32_222
  let c0_i32_223 : BitVec 32 := 0#32
  let v295 : BitVec 1 := Scalar.cmpi .slt v291 c0_i32_223
  let v296 : BitVec 1 := Scalar.xori v294 v295
  let c0_i32_221 : BitVec 32 := 0#32
  let v293 : BitVec 1 := Scalar.cmpi .ne v292 c0_i32_221
  let v297 : BitVec 1 := Scalar.andi v296 v293
  let v298 : BitVec 32 := Scalar.addi v292 v291
  let v299 : BitVec 32 := Scalar.select v297 v298 v292
  let c1_i32_227 : BitVec 32 := 1#32
  let v300 : BitVec 32 := Scalar.muli v299 c1_i32_227
  let v301 : BitVec 32 := Scalar.addi c0_i32_228 v300
  v301.toNat
def k0_dev6 (d0 : Dev nD) : Nat :=
  let c0_i32_322 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c2_i32_310 : BitVec 32 := 2#32
  let c2_i32_311 : BitVec 32 := 2#32
  let v406 : BitVec 32 := Scalar.select v13 c2_i32_310 c2_i32_311
  let v407 : BitVec 32 := Scalar.addi v2 v406
  let c4_i32_312 : BitVec 32 := 4#32
  let c0_i32_313 : BitVec 32 := 0#32
  let v408 : BitVec 1 := Scalar.cmpi .eq c4_i32_312 c0_i32_313
  let c1_i32_314 : BitVec 32 := 1#32
  let v409 : BitVec 32 := Scalar.select v408 c1_i32_314 c4_i32_312
  let v410 : BitVec 32 := Scalar.remsi v407 v409
  let c0_i32_316 : BitVec 32 := 0#32
  let v412 : BitVec 1 := Scalar.cmpi .slt v410 c0_i32_316
  let c0_i32_317 : BitVec 32 := 0#32
  let v413 : BitVec 1 := Scalar.cmpi .slt v409 c0_i32_317
  let v414 : BitVec 1 := Scalar.xori v412 v413
  let c0_i32_315 : BitVec 32 := 0#32
  let v411 : BitVec 1 := Scalar.cmpi .ne v410 c0_i32_315
  let v415 : BitVec 1 := Scalar.andi v414 v411
  let v416 : BitVec 32 := Scalar.addi v410 v409
  let v417 : BitVec 32 := Scalar.select v415 v416 v410
  let c1_i32_321 : BitVec 32 := 1#32
  let v418 : BitVec 32 := Scalar.muli v417 c1_i32_321
  let v419 : BitVec 32 := Scalar.addi c0_i32_322 v418
  v419.toNat
def k0_dev7 (d0 : Dev nD) : Nat :=
  let c0_i32_416 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c2_i32_404 : BitVec 32 := 2#32
  let c2_i32_405 : BitVec 32 := 2#32
  let v524 : BitVec 32 := Scalar.select v13 c2_i32_404 c2_i32_405
  let v525 : BitVec 32 := Scalar.addi v2 v524
  let c4_i32_406 : BitVec 32 := 4#32
  let c0_i32_407 : BitVec 32 := 0#32
  let v526 : BitVec 1 := Scalar.cmpi .eq c4_i32_406 c0_i32_407
  let c1_i32_408 : BitVec 32 := 1#32
  let v527 : BitVec 32 := Scalar.select v526 c1_i32_408 c4_i32_406
  let v528 : BitVec 32 := Scalar.remsi v525 v527
  let c0_i32_410 : BitVec 32 := 0#32
  let v530 : BitVec 1 := Scalar.cmpi .slt v528 c0_i32_410
  let c0_i32_411 : BitVec 32 := 0#32
  let v531 : BitVec 1 := Scalar.cmpi .slt v527 c0_i32_411
  let v532 : BitVec 1 := Scalar.xori v530 v531
  let c0_i32_409 : BitVec 32 := 0#32
  let v529 : BitVec 1 := Scalar.cmpi .ne v528 c0_i32_409
  let v533 : BitVec 1 := Scalar.andi v532 v529
  let v534 : BitVec 32 := Scalar.addi v528 v527
  let v535 : BitVec 32 := Scalar.select v533 v534 v528
  let c1_i32_415 : BitVec 32 := 1#32
  let v536 : BitVec 32 := Scalar.muli v535 c1_i32_415
  let v537 : BitVec 32 := Scalar.addi c0_i32_416 v536
  v537.toNat
def k0_dev8 (d0 : Dev nD) : Nat :=
  let c0_i32_510 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c1_i32_498 : BitVec 32 := 1#32
  let c3_i32_499 : BitVec 32 := 3#32
  let v642 : BitVec 32 := Scalar.select v13 c1_i32_498 c3_i32_499
  let v643 : BitVec 32 := Scalar.addi v2 v642
  let c4_i32_500 : BitVec 32 := 4#32
  let c0_i32_501 : BitVec 32 := 0#32
  let v644 : BitVec 1 := Scalar.cmpi .eq c4_i32_500 c0_i32_501
  let c1_i32_502 : BitVec 32 := 1#32
  let v645 : BitVec 32 := Scalar.select v644 c1_i32_502 c4_i32_500
  let v646 : BitVec 32 := Scalar.remsi v643 v645
  let c0_i32_504 : BitVec 32 := 0#32
  let v648 : BitVec 1 := Scalar.cmpi .slt v646 c0_i32_504
  let c0_i32_505 : BitVec 32 := 0#32
  let v649 : BitVec 1 := Scalar.cmpi .slt v645 c0_i32_505
  let v650 : BitVec 1 := Scalar.xori v648 v649
  let c0_i32_503 : BitVec 32 := 0#32
  let v647 : BitVec 1 := Scalar.cmpi .ne v646 c0_i32_503
  let v651 : BitVec 1 := Scalar.andi v650 v647
  let v652 : BitVec 32 := Scalar.addi v646 v645
  let v653 : BitVec 32 := Scalar.select v651 v652 v646
  let c1_i32_509 : BitVec 32 := 1#32
  let v654 : BitVec 32 := Scalar.muli v653 c1_i32_509
  let v655 : BitVec 32 := Scalar.addi c0_i32_510 v654
  v655.toNat
def k0_off4 (d0 : Dev nD) (c0_i32_568 : BitVec 32) : Fin 2 → Nat :=
  let c0_i32_573 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_567 : BitVec 32 := 2048#32
  let v730 : BitVec 32 := Scalar.muli v2 c2048_i32_567
  let v731 : BitVec 32 := Scalar.addi v730 c0_i32_568
  ![0, v731.toNat]
def k0_dev9 (d0 : Dev nD) : Nat :=
  let c0_i32_595 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c1_i32_584 : BitVec 32 := 1#32
  let c3_i32_585 : BitVec 32 := 3#32
  let v748 : BitVec 32 := Scalar.select v13 c1_i32_584 c3_i32_585
  let v749 : BitVec 32 := Scalar.addi v2 v748
  let c4_i32_586 : BitVec 32 := 4#32
  let c0_i32_587 : BitVec 32 := 0#32
  let v750 : BitVec 1 := Scalar.cmpi .eq c4_i32_586 c0_i32_587
  let c1_i32_588 : BitVec 32 := 1#32
  let v751 : BitVec 32 := Scalar.select v750 c1_i32_588 c4_i32_586
  let v752 : BitVec 32 := Scalar.remsi v749 v751
  let c0_i32_590 : BitVec 32 := 0#32
  let v754 : BitVec 1 := Scalar.cmpi .slt v752 c0_i32_590
  let c0_i32_591 : BitVec 32 := 0#32
  let v755 : BitVec 1 := Scalar.cmpi .slt v751 c0_i32_591
  let v756 : BitVec 1 := Scalar.xori v754 v755
  let c0_i32_589 : BitVec 32 := 0#32
  let v753 : BitVec 1 := Scalar.cmpi .ne v752 c0_i32_589
  let v757 : BitVec 1 := Scalar.andi v756 v753
  let v758 : BitVec 32 := Scalar.addi v752 v751
  let v759 : BitVec 32 := Scalar.select v757 v758 v752
  let c1_i32_594 : BitVec 32 := 1#32
  let v760 : BitVec 32 := Scalar.muli v759 c1_i32_594
  let v761 : BitVec 32 := Scalar.addi c0_i32_595 v760
  v761.toNat
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x8192, .f32⟩
  | .hbm, ⟨3, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Prog.lean ====
/-
# The kernel's steps

The kernel's body is one straight line of transfers, semaphore operations, loads and stores. This module names
each kind of step once — with the column block, the buffer slot or the semaphore as a parameter — and writes the
body as their composition (`prog`). `body_eq` says that the printed body is that composition.

Every step is written over what follows it (`K`), so a rule about one step applies wherever the step stands.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Regions
public import Idealize.ShloMosaic.Lib.Tactic

@[expose] public section

set_option synthInstance.maxSize 4096

noncomputable section

namespace Cert.KernelIdealProof

open Cert.KernelIdeal Cert.KernelIdeal.Gen
open Idealize.ShloMosaic Idealize.SL.Sem

variable {F : FTy → Type} [FloatOps F]

/-- A program of one TensorCore of the mesh. -/
abbrev TcProg (F : FTy → Type) [FloatOps F] := Prog (TpuEff nD τ sig (Elt F) Λ₀ .tc) PUnit.{1}

/-! ## Buffers and their parts -/

/-- The staged block of the left factor. -/
abbrev xM : Memref sig .tc .vmem S1024x4096 .bf16 := Memref.whole cc0_stg0_0
/-- The right factor. -/
abbrev wM : Memref sig .tc .hbm S4096x8192 .f32 := Memref.whole main_arg1
/-- The result array. -/
abbrev oM : Memref sig .tc .hbm S4096x2048 .bf16 := Memref.whole main_v1
/-- The two slots the column blocks of the right factor are loaded into. -/
abbrev bM : Memref sig .tc .vmem S2x4096x512 .f32 := Memref.whole cc0_scratch0
/-- The eight slots the product blocks are gathered in. -/
abbrev yM : Memref sig .tc .vmem S8x1024x1024 .bf16 := Memref.whole cc0_scratch1

/-- A slot of the load buffer lies in it. -/
theorem bInb : ∀ (s : Fin 2) (a : Fin 3), (![s.val, 0, 0] : Fin 3 → Nat) a + S1x4096x512.size a ≤ S2x4096x512.size a := by
  decide +kernel
/-- A slot of the product buffer lies in it. -/
theorem yInb : ∀ (k : Fin 8) (a : Fin 3), (![k.val, 0, 0] : Fin 3 → Nat) a + S1x1024x1024.size a ≤ S8x1024x1024.size a := by
  decide +kernel
/-- So does half of a slot. -/
theorem yhInb : ∀ (k : Fin 8) (u : Fin 2) (a : Fin 3),
    (![k.val, 0, 512 * u.val] : Fin 3 → Nat) a + S1x1024x512.size a ≤ S8x1024x1024.size a := by
  decide +kernel
/-- An entry of an array of two semaphores lies in it. -/
theorem s2Inb : ∀ (s : Fin 2) (a : Fin 1), (![s.val] : Fin 1 → Nat) a + S1.size a ≤ S2.size a := by decide +kernel
/-- An entry of an array of six semaphores lies in it. -/
theorem s6Inb : ∀ (s : Fin 6) (a : Fin 1), (![s.val] : Fin 1 → Nat) a + S1.size a ≤ S6.size a := by decide +kernel

/-- The rectangle of slot `s` of the load buffer. -/
abbrev bRect (s : Fin 2) : Rect S2x4096x512 := Rect.unit (s := S2x4096x512) ![s.val, 0, 0] S1x4096x512.size (bInb s)
/-- The rectangle of slot `k` of the product buffer. -/
abbrev yRect (k : Fin 8) : Rect S8x1024x1024 := Rect.unit (s := S8x1024x1024) ![k.val, 0, 0] S1x1024x1024.size (yInb k)
/-- The rectangle of column half `u` of slot `k` of the product buffer. -/
abbrev yhRect (k : Fin 8) (u : Fin 2) : Rect S8x1024x1024 :=
  Rect.unit (s := S8x1024x1024) ![k.val, 0, 512 * u.val] S1x1024x512.size (yhInb k u)

/-- A slot consists of whole words. -/
theorem yWords : ∀ k : Fin 8, (yRect k).WholeWords (EltTy.packing .bf16) := by decide +kernel

/-- A half of a slot consists of whole packed rows. -/
theorem yPacked : ∀ (k : Fin 8) (u : Fin 2), (yhRect k u).PackedRows (EltTy.packing .bf16) := by decide +kernel

/-- The column offset, in the right factor, of column block `t` of device `c`'s walk. -/
def woff (c : Dev nD) (t : Fin 16) : Fin 2 → Nat :=
  if h : t.val < 12 then
    k0_off1 c (k0_off1_at ⟨t.val, h⟩).1 (k0_off1_at ⟨t.val, h⟩).2.1 (k0_off1_at ⟨t.val, h⟩).2.2
  else k0_off4 c (BitVec.ofNat 32 (512 * (t.val - 12)))

/-- A column block lies in the right factor. -/
theorem woff_inb (c : Dev nD) (t : Fin 16) : ∀ a, woff c t a + S4096x512.size a ≤ S4096x8192.size a := by
  unfold woff
  split
  · next h => exact k0_off1_inb c ⟨t.val, h⟩
  · next h => exact k0_off4_inb c ⟨t.val - 12, by omega⟩

/-- The rectangle of column block `t` of device `c`'s walk. -/
abbrev wRect (c : Dev nD) (t : Fin 16) : Rect S4096x8192 :=
  Rect.unit (s := S4096x8192) (woff c t) S4096x512.size (woff_inb c t)

/-- The offsets of half `h` of device `c`'s row block of a result array. -/
def ooff (c : Dev nD) (h : Fin 2) : Fin 2 → Nat :=
  match h with
  | 0 => k0_off2 c
  | 1 => k0_off3 c

/-- Row block `c`, column half `h`. -/
theorem ooff_eq (c : Dev nD) (h : Fin 2) : ooff c h = ![1024 * c.val, 1024 * h.val] :=
  match h with
  | 0 => k0_off2_eq c
  | 1 => k0_off3_eq c

/-- Such a block lies in the result array. -/
theorem ooff_inb (c : Dev nD) (h : Fin 2) : ∀ a, ooff c h a + S1024x1024.size a ≤ S4096x2048.size a :=
  match h with
  | 0 => k0_off2_inb c
  | 1 => k0_off3_inb c

/-- The rectangle of half `h` of device `c`'s row block of a result array. -/
abbrev oRect (c : Dev nD) (h : Fin 2) : Rect S4096x2048 :=
  Rect.unit (s := S4096x2048) (ooff c h) S1024x1024.size (ooff_inb c h)

/-- It consists of whole words. -/
theorem oWords (c : Dev nD) (h : Fin 2) : (oRect c h).WholeWords (EltTy.packing .bf16) :=
  match h with
  | 0 => k0_off2_wordsbf16 c
  | 1 => k0_off3_wordsbf16 c

/-- Column block `t` of device `c`'s walk over the right factor. -/
abbrev wCol (c : Dev nD) (t : Fin 16) : Memref sig .tc .hbm S4096x512 .f32 := wM.slice (wRect c t) (fun _ => rfl)
/-- Slot `s` of the load buffer. -/
abbrev bSlot (s : Fin 2) : Memref sig .tc .vmem S4096x512 .f32 :=
  (bM.slice (bRect s) (fun _ => rfl)).squeeze S4096x512 squeezes_S1x4096x512_S4096x512
/-- Slot `k` of the product buffer. -/
abbrev ySlot (k : Fin 8) : Memref sig .tc .vmem S1024x1024 .bf16 :=
  (yM.slice (yRect k) (fun _ => rfl)).squeeze S1024x1024 squeezes_S1x1024x1024_S1024x1024
/-- Half `h` of device `c`'s row block of a result array. -/
abbrev oBlk (c : Dev nD) (h : Fin 2) : Memref sig .tc .hbm S1024x1024 .bf16 := oM.slice (oRect c h) (fun _ => rfl)

/-! ## Semaphores -/

/-- The semaphore of the loads into slot `s`. -/
abbrev lSem (s : Fin 2) : DmaSem sig :=
  ((cc0_scratch2.slice (Rect.unit (s := S2) ![s.val] S1.size (s2Inb s))).squeeze S_ squeezes_S1_S_).sem
/-- Half `h` of the columns of the `g`-th peer: its number among the six transfers between devices. -/
abbrev num (g : Fin 3) (h : Fin 2) : Fin 6 := ⟨2 * g.val + h.val, by omega⟩
/-- The semaphore that says the half sent as `(g, h)` has been read out. -/
abbrev sSem (g : Fin 3) (h : Fin 2) : DmaSem sig :=
  ((cc0_scratch3.slice (Rect.unit (s := S6) ![(num g h).val] S1.size (s6Inb (num g h)))).squeeze S_ squeezes_S1_S_).sem
/-- The semaphore that says the half a peer sent as `(g, h)` has arrived. -/
abbrev rSem (g : Fin 3) (h : Fin 2) : DmaSem sig :=
  ((cc0_scratch4.slice (Rect.unit (s := S6) ![(num g h).val] S1.size (s6Inb (num g h)))).squeeze S_ squeezes_S1_S_).sem
/-- The semaphore of the local copy of half `h`. -/
abbrev cSem (h : Fin 2) : DmaSem sig :=
  ((cc0_scratch5.slice (Rect.unit (s := S2) ![h.val] S1.size (s2Inb h))).squeeze S_ squeezes_S1_S_).sem
/-- The barrier semaphore. -/
abbrev barS : Sem sig := (SemArray.scalar (sig.barrier 0 rfl) : Sems sig S_).sem

/-! ## Devices -/

/-- The device the `k`-th signal of device `c` goes to, as the kernel computes it. -/
def sigDev (c : Dev nD) (k : Fin 3) : Dev nD :=
  match k with
  | 0 => ⟨k0_dev1 c, k0_dev1_lt c⟩
  | 1 => ⟨k0_dev2 c, k0_dev2_lt c⟩
  | 2 => ⟨k0_dev3 c, k0_dev3_lt c⟩

/-- The device the transfer `(g, h)` of device `c` goes to, as the kernel computes it. -/
def sendDev (c : Dev nD) (g : Fin 3) (h : Fin 2) : Dev nD :=
  match g, h with
  | 0, 0 => ⟨k0_dev4 c, k0_dev4_lt c⟩
  | 0, 1 => ⟨k0_dev5 c, k0_dev5_lt c⟩
  | 1, 0 => ⟨k0_dev6 c, k0_dev6_lt c⟩
  | 1, 1 => ⟨k0_dev7 c, k0_dev7_lt c⟩
  | 2, 0 => ⟨k0_dev8 c, k0_dev8_lt c⟩
  | 2, 1 => ⟨k0_dev9 c, k0_dev9_lt c⟩

/-- The first of the two column blocks whose products fill slot `k`. -/
abbrev ev (k : Fin 8) : Fin 16 := ⟨2 * k.val, by omega⟩
/-- The second of them. -/
abbrev od (k : Fin 8) : Fin 16 := ⟨2 * k.val + 1, by omega⟩

/-! ## Steps -/

section Steps

variable (c : Dev nD)

/-- Raise the barrier semaphore of the `k`-th other device by one. -/
def sigP (k : Fin 3) (K : TcProg F) : TcProg F :=
  Prog.op (.semSignal (Dev.tc (sigDev c k)) barS (1#32).toInt) fun _ => K

/-- Wait for one signal from each of the three other devices. -/
def barP (K : TcProg F) : TcProg F := Prog.op (.semWait barS (3#32).toInt) fun _ => K

/-- Start loading column block `t` into slot `s`. -/
def startP (s : Fin 2) (t : Fin 16) (K : TcProg F) : TcProg F :=
  Prog.op (.enqueueDma (wCol c t) (.here (bSlot s)) (.dma (lSem s)) (View.wordExact_bits rfl)
    ((View.wordExact_bits rfl).reshape _ _) ⟨Or.inl rfl, trivial⟩) fun _ => K

/-- Wait until column block `t` is loaded into slot `s`. -/
def loadedP (s : Fin 2) (t : Fin 16) (K : TcProg F) : TcProg F :=
  Prog.op (.waitDma2 (lSem s) (wCol c t) (bSlot s) (View.wordExact_bits rfl)
    ((View.wordExact_bits rfl).reshape _ _)) fun _ => K

/-- Multiply the left block by the column block in slot `s` and keep the product in half `s` of slot `k`. -/
def multP (s : Fin 2) (k : Fin 8) (K : TcProg F) : TcProg F :=
  Prog.op (.load bM (bRect s).toLoadRect (View.loadsAt_vmem h_S1x4096x512)) fun v =>
  Prog.op (.load xM (Rect.unit (s := S1024x4096) ![0, 0] S1024x4096.size inb_S1024x4096_S1024x4096_0_0).toLoadRect
    (View.loadsAt_vmem h_S1024x4096)) fun w =>
  Prog.op (.load yM (yhRect k s).toLoadRect (View.loadsAt_vmem h_S1x1024x512)) fun _ =>
  Prog.op (.store yM (yhRect k s) (k0_pay1 v w) Finset.univ
    (View.stores_vmem h_S1x1024x512 ((Memref.isWhole_whole _).storeExact_slice rfl _ (yPacked k s))
      (fun _ => rfl)) (.inl rfl)) fun _ => K

/-- The part of the product buffer a transfer reads is made of whole words. -/
theorem yExact (k : Fin 8) : (ySlot k).view.WordExact :=
  ((Memref.isWhole_whole cc0_scratch1).wordExact_slice rfl _ (yWords k)).reshape _ _

/-- The part of a result array a transfer touches is made of whole words. -/
theorem oExact (h : Fin 2) : (oBlk c h).view.WordExact :=
  (Memref.isWhole_whole main_v1).wordExact_slice rfl _ (oWords c h)

/-- Send slot `k` as the transfer `(g, h)`, into the sender's rows of the receiver's result array. -/
def sendP (g : Fin 3) (h : Fin 2) (k : Fin 8) (K : TcProg F) : TcProg F :=
  Prog.op (.enqueueDma (ySlot k) (.remote (Dev.tc (sendDev c g h)) (oBlk c h) (.dma (sSem g h))) (.dma (rSem g h))
    (yExact k) (oExact c h) ⟨⟨rfl, Or.inl rfl⟩, trivial⟩) fun _ => K

/-- Copy slot `k` into half `h` of the device's own rows of its result array. -/
def copyP (h : Fin 2) (k : Fin 8) (K : TcProg F) : TcProg F :=
  Prog.op (.enqueueDma (ySlot k) (.here (oBlk c h)) (.dma (cSem h)) (yExact k) (oExact c h)
    ⟨Or.inl rfl, trivial⟩) fun _ => K

/-- Wait until what a peer sent as `(g, h)` has arrived. -/
def recvP (g : Fin 3) (h : Fin 2) (k : Fin 8) (K : TcProg F) : TcProg F :=
  Prog.op (.waitDma2 (rSem g h) (ySlot k) (oBlk c 0) (yExact k) (oExact c 0)) fun _ => K

/-- Wait until the slot `k` sent as `(g, h)` has been read out. -/
def sentP (g : Fin 3) (h : Fin 2) (k : Fin 8) (K : TcProg F) : TcProg F :=
  Prog.op (.waitDma2 (sSem g h) (oBlk c h) (ySlot k) (oExact c h) (yExact k)) fun _ => K

/-- Wait until the local copy of half `h` is done. -/
def copiedP (h : Fin 2) (k : Fin 8) (K : TcProg F) : TcProg F :=
  Prog.op (.waitDma2 (cSem h) (ySlot k) (oBlk c h) (yExact k) (oExact c h)) fun _ => K

/-- Fill slot `k`: two column blocks, each awaited and multiplied while the next one loads; the last load started is
    of the first column block of slot `k'`. -/
abbrev fillP (k k' : Fin 8) (K : TcProg F) : TcProg F :=
  loadedP c 0 (ev k) <| startP c 1 (od k) <| multP 0 k <|
  loadedP c 1 (od k) <| startP c 0 (ev k') <| multP 1 k K

/-- Fill slot `k`, the last one. -/
abbrev fillLastP (k : Fin 8) (K : TcProg F) : TcProg F :=
  loadedP c 0 (ev k) <| startP c 1 (od k) <| multP 0 k <| loadedP c 1 (od k) <| multP 1 k K

/-- The last part of the body: what waits for every transfer to be over. -/
abbrev drain : TcProg F :=
  recvP c 0 0 0 <| recvP c 0 1 1 <| recvP c 1 0 2 <| recvP c 1 1 3 <| recvP c 2 0 4 <| recvP c 2 1 5 <|
  sentP c 0 0 0 <| sentP c 0 1 1 <| sentP c 1 0 2 <| sentP c 1 1 3 <| sentP c 2 0 4 <| sentP c 2 1 5 <|
  copiedP c 0 6 <| copiedP c 1 7 <| Prog.ret ⟨⟩

/-- The body of the kernel on device `c`. -/
abbrev prog : TcProg F :=
  sigP c 0 <| sigP c 1 <| sigP c 2 <| startP c 0 (ev 0) <|
  fillP c 0 1 <| barP <| sendP c 0 0 0 <|
  fillP c 1 2 <| sendP c 0 1 1 <|
  fillP c 2 3 <| sendP c 1 0 2 <|
  fillP c 3 4 <| sendP c 1 1 3 <|
  fillP c 4 5 <| sendP c 2 0 4 <|
  fillP c 5 6 <| sendP c 2 1 5 <|
  fillP c 6 7 <| copyP c 0 6 <|
  fillLastP c 7 <| copyP c 1 7 <|
  drain c

end Steps

/-- The printed body is `prog` at the device it runs on. -/
theorem body_eq :
    cc0_body (F := F) xM (Memref.isWhole_whole _) wM (Memref.isWhole_whole _) oM (Memref.isWhole_whole _) bM
        (Memref.isWhole_whole _) yM (Memref.isWhole_whole _) cc0_scratch2 cc0_scratch3 cc0_scratch4 cc0_scratch5
      = Prog.op .deviceId fun c => prog c := by
  chain_rfl

end Cert.KernelIdealProof
-- ==== Proof.KernelIdeal.Contents.lean ====
/-
# What the arrays hold

The product blocks as the kernel computes them, the contents of the slots they are gathered in, and the contents
of every device's result array after the run (`outC`). The lemmas say what a load, a store or a transfer reads and
writes in these terms, and which elements each part of a buffer consists of.
-/
module

public import proofs.«01_k».proof.Proof.KernelIdeal.Prog
public import Idealize.ShloMosaic.Lib.ValueIdxCore
public import Idealize.ShloMosaic.Lib.ValueLayout

@[expose] public section

set_option synthInstance.maxSize 4096

noncomputable section

namespace Cert.KernelIdealProof

open Cert.KernelIdeal Cert.KernelIdeal.Gen
open Idealize.ShloMosaic Idealize.ShloMosaic.TcCoe Idealize.ShloMosaic.ValueIdx Idealize.SL.Sem

variable {F : FTy → Type} [FloatOps F]

/-! ## The parts of the buffers -/

/-- Slot `s` of the load buffer is what has first coordinate `s`. -/
theorem mem_bSlot (s : Fin 2) (i : S2x4096x512.Idx) : i ∈ (bSlot s).view.set ↔ (i 0).val = s.val := by
  have e : (bSlot s).view.set = (bRect s).set := (View.set_reshape _ _).trans (View.set_slice_whole _ _)
  rw [e, Rect.mem_set_unit]
  have h1 : (i 1).val < 4096 := (i 1).isLt
  have h2 : (i 2).val < 512 := (i 2).isLt
  constructor
  · intro h
    have := h 0
    simp at this
    omega
  · intro h a
    fin_cases a <;> simp <;> omega

/-- Slot `k` of the product buffer is what has first coordinate `k`. -/
theorem mem_ySlot (k : Fin 8) (i : S8x1024x1024.Idx) : i ∈ (ySlot k).view.set ↔ (i 0).val = k.val := by
  have e : (ySlot k).view.set = (yRect k).set := (View.set_reshape _ _).trans (View.set_slice_whole _ _)
  rw [e, Rect.mem_set_unit]
  have h1 : (i 1).val < 1024 := (i 1).isLt
  have h2 : (i 2).val < 1024 := (i 2).isLt
  constructor
  · intro h
    have := h 0
    simp at this
    omega
  · intro h a
    fin_cases a <;> simp <;> omega

/-- Half `h` of device `s`'s rows is what has row block `s` and column half `h`. -/
theorem mem_oBlk (s : Dev nD) (h : Fin 2) (i : S4096x2048.Idx) :
    i ∈ (oBlk s h).view.set ↔ (i 0).val / 1024 = s.val ∧ (i 1).val / 1024 = h.val := by
  show i ∈ ((View.whole main_v1).slice (oRect s h)).set ↔ _
  rw [View.set_slice_whole, Rect.mem_set_unit]
  simp only [ooff_eq]
  constructor
  · intro hi
    have h0 := hi 0
    have h1 := hi 1
    simp at h0 h1
    omega
  · intro hi a
    fin_cases a <;> simp <;> omega

/-- A half of a slot lies in the slot. -/
theorem yh_subset (k : Fin 8) (u : Fin 2) : (yM.access (yhRect k u)).set ⊆ (ySlot k).view.set := by
  intro i hi
  have hi' : i ∈ ((View.whole cc0_scratch1).slice (yhRect k u)).set := hi
  rw [View.set_slice_whole, Rect.mem_set_unit] at hi'
  refine (mem_ySlot k i).mpr ?_
  have := hi' 0
  simp at this
  omega

/-- So do the elements a load of the half reads. -/
theorem yh_load_subset (k : Fin 8) (u : Fin 2) : yM.view.setOn (yhRect k u).toLoadRect.set ⊆ (ySlot k).view.set := by
  intro i hi
  obtain ⟨j, hj, rfl⟩ := Finset.mem_map.mp hi
  have hj' : j ∈ (yhRect k u).set := hj
  rw [Rect.mem_set_unit] at hj'
  refine (mem_ySlot k _).mpr ?_
  have := hj' 0
  simp at this
  show (j 0).val = k.val
  omega

/-- The elements a load of slot `s` of the load buffer reads lie in the slot. -/
theorem bRect_subset (s : Fin 2) : bM.view.setOn (bRect s).toLoadRect.set ⊆ (bSlot s).view.set := by
  intro i hi
  obtain ⟨j, hj, rfl⟩ := Finset.mem_map.mp hi
  have hj' : j ∈ (bRect s).set := hj
  rw [Rect.mem_set_unit] at hj'
  refine (mem_bSlot s _).mpr ?_
  have := hj' 0
  simp at this
  show (j 0).val = s.val
  omega

/-- Where an element of a slot of the load buffer lies. -/
theorem bSlot_emb (s : Fin 2) (x : Fin 4096) (y : Fin 512) :
    (bSlot s).view.emb (ix2 x y) = (bRect s).emb (ix3 (0 : Fin 1) x y) :=
  congrArg (bRect s).emb (reshapeEquiv_ix2_1ab _ x y)

/-- Where an element of a slot of the product buffer lies. -/
theorem ySlot_emb (k : Fin 8) (x y : Fin 1024) :
    (ySlot k).view.emb (ix2 x y) = (yRect k).emb (ix3 (0 : Fin 1) x y) :=
  congrArg (yRect k).emb (reshapeEquiv_ix2_1ab _ x y)

/-- Where an element of a half of a slot lies. -/
theorem yh_emb (k : Fin 8) (u : Fin 2) (x : Fin 1024) (y : Fin 512) (z : Fin 1024) (hz : z.val = 512 * u.val + y.val) :
    (yM.access (yhRect k u)).emb (ix3 (0 : Fin 1) x y) = (ySlot k).view.emb (ix2 x z) := by
  rw [ySlot_emb]
  refine funext fun a => Fin.ext ?_
  show ((yhRect k u).emb _ a).val = ((yRect k).emb _ a).val
  rw [Rect.emb_apply, Rect.emb_apply]
  fin_cases a
  · rfl
  · rfl
  · show 512 * u.val + 1 * y.val = 0 + 1 * z.val
    omega

/-! ## The product blocks -/

variable (m : (ℓ : Loc nD τ sig) → Buf (Elt F) ℓ)

/-- The block of the left factor device `c` reads. -/
def xv (c : Dev nD) : Vec F S1024x4096 .bf16 :=
  (win0_0.blk (0 : Fin 1)).view.read (Elt F) (m ((c : Thread nD τ).loc main_arg0))

/-- Column block `t` of device `c`'s walk. -/
def wv (c : Dev nD) (t : Fin 16) : Vec F S4096x512 .f32 :=
  (wCol c t).view.read (Elt F) (m ((c : Thread nD τ).loc main_arg1))

/-- A column block under a leading axis of one element. -/
def lift3 (v : Vec F S4096x512 .f32) : Vec F S1x4096x512 .f32 := fun i => v (ix2 (i 1) (i 2))

/-- The product of the left block by column block `t`. -/
def tile (c : Dev nD) (t : Fin 16) : FVec F S1x1024x512 .bf16 := k0_pay1 (lift3 (wv m c t)) (xv m c)

/-- One element of two product blocks side by side. -/
def joinAt (a b : FVec F S1x1024x512 .bf16) (p q : Fin 1024) : Elt F .bf16 :=
  if h : q.val < 512 then a (ix3 (0 : Fin 1) p (⟨q.val, h⟩ : Fin 512))
  else b (ix3 (0 : Fin 1) p (⟨q.val - 512, by omega⟩ : Fin 512))

/-- Two product blocks side by side. -/
def join (a b : FVec F S1x1024x512 .bf16) : Vec F S1024x1024 .bf16 := fun i => joinAt a b (i 0) (i 1)

/-- The contents of slot `k` once it is full. -/
def slotVal (c : Dev nD) (k : Fin 8) : Vec F S1024x1024 .bf16 := join (tile m c (ev k)) (tile m c (od k))

/-- The slot in which device `s` gathers half `h` of device `d`'s columns. -/
def srcSlot (s d : Dev nD) (h : Fin 2) : Fin 8 := ⟨(2 * (3 - (s.val ^^^ d.val)) + h.val) % 8, Nat.mod_lt _ (by decide)⟩

/-- Device `d`'s result array after the run: row block `s` is what device `s` gathered for `d`. -/
def outC (d : Dev nD) : Vec F S4096x2048 .bf16 := fun i =>
  slotVal m (⟨(i 0).val / 1024, by have := (i 0).isLt; simp at this; show _ < 4; omega⟩ : Dev nD)
    (srcSlot ⟨(i 0).val / 1024, by have := (i 0).isLt; simp at this; show _ < 4; omega⟩ d
      ⟨(i 1).val / 1024, by have := (i 1).isLt; simp at this; omega⟩)
    (ix2 (⟨(i 0).val % 1024, Nat.mod_lt _ (by decide)⟩ : Fin 1024) (⟨(i 1).val % 1024, Nat.mod_lt _ (by decide)⟩ : Fin 1024))

/-! ## What the steps read and write -/

/-- A load from the slot a column block was copied into reads that column block. -/
theorem read_loaded (s : Fin 2) (f : (cc0_scratch0 : Ref sig .tc).ty.Contents (Elt F)) (v : Vec F S4096x512 .f32) :
    bM.view.readAt (Elt F) (bRect s).toLoadRect ((bSlot s).view.write (Elt F) f v Finset.univ) = lift3 v := by
  have key : ∀ x : S4096x512.Idx, (bSlot s).view.write (Elt F) f v Finset.univ ((bSlot s).view.emb x) = v x := fun x =>
    View.write_emb_of_mem (v := (bSlot s).view) f v (Finset.mem_univ x)
  funext i
  have hi : i = ix3 (0 : Fin 1) (i 1) (i 2) := by
    refine (eq_ix3 i).trans ?_
    congr 1
    exact Fin.ext (Nat.lt_one_iff.mp (i 0).isLt)
  have e : (bSlot s).view.emb (ix2 (i 1) (i 2)) = (bM.view.slice (bRect s)).emb i :=
    (bSlot_emb s (i 1) (i 2)).trans (congrArg (bRect s).emb hi.symm)
  refine Eq.trans ?_ (key (ix2 (i 1) (i 2)))
  exact congrArg ((bSlot s).view.write (Elt F) f v Finset.univ) e.symm

/-- A load of the left block reads it. -/
theorem read_x (f : (cc0_stg0_0 : Ref sig .tc).ty.Contents (Elt F)) :
    xM.view.readAt (Elt F) (Rect.unit (s := S1024x4096) ![0, 0] S1024x4096.size inb_S1024x4096_S1024x4096_0_0).toLoadRect f = f :=
  Memref.readAt_unit_zero (Elt F) cc0_stg0_0 (funext fun a => by fin_cases a <;> rfl) _ f

/-- The second store leaves the first half of the slot as the first store made it. -/
theorem stored_low (k : Fin 8) (f : (cc0_scratch1 : Ref sig .tc).ty.Contents (Elt F)) (a b : FVec F S1x1024x512 .bf16)
    (p q : Fin 1024) (r : Fin 512) (hr : r.val = q.val) :
    ((yM.access (yhRect k 1)).write (Elt F) ((yM.access (yhRect k 0)).write (Elt F) f a Finset.univ) b Finset.univ)
      ((ySlot k).view.emb (ix2 p q)) = a (ix3 (0 : Fin 1) p r) := by
  have e0 := yh_emb k 0 p r q (by rw [hr]; exact (Nat.zero_add _).symm)
  have hn : (ySlot k).view.emb (ix2 p q) ∉ (yM.access (yhRect k 1)).setOn Finset.univ := by
    rw [ySlot_emb]
    intro hm
    have hm' : (yRect k).emb (ix3 (0 : Fin 1) p q) ∈ (yhRect k 1).set := by
      rw [← View.set_slice_whole cc0_scratch1 (yhRect k 1)]; exact hm
    rw [Rect.mem_set_unit] at hm'
    have h2 : 512 ≤ 0 + 1 * q.val := (hm' 2).1
    omega
  refine (View.write_of_not_mem _ _ _ hn).trans ?_
  rw [← e0]
  exact View.write_emb_of_mem (v := yM.access (yhRect k 0)) f a (Finset.mem_univ (ix3 (0 : Fin 1) p r))

/-- The second store fills the second half. -/
theorem stored_high (k : Fin 8) (f : (cc0_scratch1 : Ref sig .tc).ty.Contents (Elt F)) (b : FVec F S1x1024x512 .bf16)
    (p q : Fin 1024) (r : Fin 512) (hr : q.val = 512 + r.val) :
    ((yM.access (yhRect k 1)).write (Elt F) f b Finset.univ) ((ySlot k).view.emb (ix2 p q)) = b (ix3 (0 : Fin 1) p r) := by
  rw [← yh_emb k 1 p r q hr]
  exact View.write_emb_of_mem (v := yM.access (yhRect k 1)) f b (Finset.mem_univ (ix3 (0 : Fin 1) p r))

/-- After the two stores of its halves a slot holds the two blocks side by side. -/
theorem stored (k : Fin 8) (f : (cc0_scratch1 : Ref sig .tc).ty.Contents (Elt F)) (a b : FVec F S1x1024x512 .bf16)
    (p q : Fin 1024) :
    ((yM.access (yhRect k 1)).write (Elt F) ((yM.access (yhRect k 0)).write (Elt F) f a Finset.univ) b Finset.univ)
      ((ySlot k).view.emb (ix2 p q)) = joinAt a b p q := by
  by_cases h : q.val < 512
  · rw [joinAt, dif_pos h]
    exact stored_low k f a b p q ⟨q.val, h⟩ rfl
  · rw [joinAt, dif_neg h]
    exact stored_high k _ b p q ⟨q.val - 512, by omega⟩ (by show q.val = 512 + (q.val - 512); omega)

/-- A slot whose elements are those of a block reads as the block. -/
theorem ySlot_read (k : Fin 8) (f : (cc0_scratch1 : Ref sig .tc).ty.Contents (Elt F)) (v : Vec F S1024x1024 .bf16)
    (h : ∀ p q : Fin 1024, f ((ySlot k).view.emb (ix2 p q)) = v (ix2 p q)) : (ySlot k).view.read (Elt F) f = v := by
  funext x
  refine Eq.trans (b := f ((ySlot k).view.emb x)) rfl ?_
  refine Eq.trans (congrArg (fun y => f ((ySlot k).view.emb y)) (eq_ix2 x)) ?_
  exact (h (x 0) (x 1)).trans (congrArg v (eq_ix2 x).symm)

/-- After the two stores of its halves a slot reads as the two blocks side by side. -/
theorem read_stored (k : Fin 8) (f : (cc0_scratch1 : Ref sig .tc).ty.Contents (Elt F)) (a b : FVec F S1x1024x512 .bf16) :
    (ySlot k).view.read (Elt F) ((yM.access (yhRect k 1)).write (Elt F)
      ((yM.access (yhRect k 0)).write (Elt F) f a Finset.univ) b Finset.univ) = join a b :=
  ySlot_read k _ _ (stored k f a b)

/-- A slot gathered for device `d`, written to its place in `d`'s result array, makes it what `outC` says there. -/
theorem write_out (s d : Dev nD) (h : Fin 2) (k : Fin 8) (hk : k = srcSlot s d h)
    (f : (main_v1 : Ref sig .tc).ty.Contents (Elt F)) :
    ∀ i ∈ (oBlk s h).view.set, (oBlk s h).view.write (Elt F) f (slotVal m s k) Finset.univ i = outC m d i := by
  intro i hi
  obtain ⟨x, -, rfl⟩ := Finset.mem_map.mp hi
  have hs : s.val < 4 := s.isLt
  have hx0 : (x 0).val < 1024 := (x 0).isLt
  have hx1 : (x 1).val < 1024 := (x 1).isLt
  rw [View.write_emb_of_mem _ _ (Finset.mem_univ _)]
  have e0 : ((oBlk s h).view.emb x 0).val = 1024 * s.val + (x 0).val := by
    show ((oRect s h).emb x 0).val = _
    rw [Rect.emb_apply]; simp [ooff_eq]
  have e1 : ((oBlk s h).view.emb x 1).val = 1024 * h.val + (x 1).val := by
    show ((oRect s h).emb x 1).val = _
    rw [Rect.emb_apply]; simp [ooff_eq]
  have q : ∀ (s' : Dev nD) (h' : Fin 2) (y0 y1 : Fin 1024), s'.val = s.val → h'.val = h.val → y0.val = (x 0).val → y1.val = (x 1).val →
      slotVal m s k x = slotVal m s' (srcSlot s' d h') (ix2 y0 y1) := by
    intro s' h' y0 y1 e1 e2 e3 e4
    obtain rfl : s' = s := Fin.ext e1
    obtain rfl : h' = h := Fin.ext e2
    subst hk
    congr 1
    refine (eq_ix2 x).trans ?_
    congr 1
    · exact (Fin.ext e3).symm
    · exact (Fin.ext e4).symm
  exact q _ _ _ _ (by show _ / 1024 = _; rw [e0]; omega) (by show _ / 1024 = _; rw [e1]; omega)
    (by show _ % 1024 = _; rw [e0]; omega) (by show _ % 1024 = _; rw [e1]; omega)

end Cert.KernelIdealProof
-- ==== Proof.KernelIdeal.Schedule.lean ====
/-
# The schedule

Every device has a barrier cell, six cells that say a slot it sends has been read out, and six that say a block has
arrived. Each is used in one round. This module names the cells, states what each duty of the round hands over, and
says what a device owes at each point of its run.

* Signalling a peer's barrier hands that peer the two blocks of the signaller's result array the peer will write.
* A block that has arrived is handed to its owner with the contents `outC` says.
* A slot that has been read out is handed back to the sender.
-/
module

public import proofs.«01_k».proof.Proof.KernelIdeal.Contents
public import Idealize.ShloMosaic.Lib.Transfers

@[expose] public section

set_option synthInstance.maxSize 4096

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of the cells between devices: a duty is named by the device that pays it. -/
abbrev UB : Type := URounds (GSem nD τ sig) (Dev nD)
/-- Beside the pipeline's rounds: those of the cells between devices, and the counters of the local transfers. -/
abbrev UU : Type := UR sig nD τ × (UB × Counters)

local notation "𝕄" => MT nD τ sig Unit (Elt F) ℕ UU ℕ

/-- The pipeline's part of the resources. -/
abbrev EP : Emb (UR sig nD τ) (MT nD τ sig Unit (Elt F) ℕ UU ℕ) := embL
/-- The part of the cells between devices. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- That part is stored like any other. -/
instance ER_lands : (ER (F := F)).LandsIn (upEmb : UEmb _ 𝕄) := by unfold ER; infer_instance

/-! ## Devices -/

/-- The device the transfers `(g, _)` of device `c` go to, and come from. -/
def peer (c : Dev nD) (g : Fin 3) : Dev nD := ⟨(c.val ^^^ (3 - g.val)) % 4, Nat.mod_lt _ (by decide)⟩
/-- The device the `k`-th signal to device `c` comes from. -/
def sigFrom (c : Dev nD) (k : Fin 3) : Dev nD := ⟨(c.val + 3 - k.val) % 4, Nat.mod_lt _ (by decide)⟩

/-- The device a transfer goes to is the peer. -/
theorem sendDev_eq : ∀ (c : Dev nD) (g : Fin 3) (h : Fin 2), sendDev c g h = peer c g := by decide +kernel
/-- The peer's peer is the device itself. -/
theorem peer_peer : ∀ (c : Dev nD) (g : Fin 3), peer (peer c g) g = c := by decide +kernel
/-- The device that signals `c` signals `c`. -/
theorem sig_from : ∀ (c : Dev nD) (k : Fin 3), sigDev (sigFrom c k) k = c := by decide +kernel
/-- And the other way round. -/
theorem from_sig : ∀ (c : Dev nD) (k : Fin 3), sigFrom (sigDev c k) k = c := by decide +kernel
/-- No device signals itself. -/
theorem sig_ne : ∀ (c : Dev nD) (k : Fin 3), c ≠ sigDev c k := by decide +kernel
/-- The slot sent as `(g, h)`. -/
abbrev sndSlot (g : Fin 3) (h : Fin 2) : Fin 8 := ⟨2 * g.val + h.val, by omega⟩
/-- The slot of half `h` of a device's own columns. -/
abbrev ownSlot (h : Fin 2) : Fin 8 := ⟨6 + h.val, by omega⟩
/-- Slot `2 g + h` is where a device gathers half `h` of what it sends to its `g`-th peer. -/
theorem srcSlot_peer : ∀ (c : Dev nD) (g : Fin 3) (h : Fin 2), sndSlot g h = srcSlot c (peer c g) h := by
  decide +kernel
/-- Slot `6 + h` is where a device gathers half `h` of its own columns. -/
theorem srcSlot_self : ∀ (c : Dev nD) (h : Fin 2), ownSlot h = srcSlot c c h := by decide +kernel

/-! ## Cells -/

/-- A transfer between devices: which peer, which half of its columns. -/
abbrev X : Type := Fin 3 × Fin 2
/-- A device's cells: the barrier, the six sent cells, the six received cells. -/
abbrev Ck : Type := Unit ⊕ (X ⊕ X)

/-- Device `c`'s barrier cell. -/
abbrev barCell (c : Dev nD) : GSem nD τ sig := ((c : Thread nD τ), .reg barS)
/-- Its cell for the slot of the transfer `(g, h)` being read out. -/
abbrev sendCell (c : Dev nD) (g : Fin 3) (h : Fin 2) : GSem nD τ sig := ((c : Thread nD τ), .dma (sSem g h))
/-- Its cell for the arrival of the transfer `(g, h)`. -/
abbrev recvCell (c : Dev nD) (g : Fin 3) (h : Fin 2) : GSem nD τ sig := ((c : Thread nD τ), .dma (rSem g h))

/-- The semaphore of a cell. -/
def csem : Ck → SemLoc sig
  | .inl _ => .reg barS
  | .inr (.inl x) => .dma (sSem x.1 x.2)
  | .inr (.inr x) => .dma (rSem x.1 x.2)

/-- The cell `k` of device `c`. -/
abbrev kcell (ck : Dev nD × Ck) : GSem nD τ sig := ((ck.1 : Thread nD τ), csem ck.2)

/-- Which of a device's cells a transfer semaphore is, if any, from its number. -/
def ckOfNat (n : ℕ) : Option Ck :=
  if n < 3 then none
  else if n < 9 then some (.inr (.inl (⟨(n - 3) / 2 % 3, Nat.mod_lt _ (by decide)⟩, ⟨(n - 3) % 2, Nat.mod_lt _ (by decide)⟩)))
  else if n < 15 then some (.inr (.inr (⟨(n - 9) / 2 % 3, Nat.mod_lt _ (by decide)⟩, ⟨(n - 9) % 2, Nat.mod_lt _ (by decide)⟩)))
  else none

/-- Which of a device's cells a semaphore is, if any. -/
def ckOf : SemLoc sig → Option Ck
  | .reg _ => some (.inl ())
  | .dma q => ckOfNat q.val

/-- The number of a load semaphore. -/
theorem lSem_val : ∀ s : Fin 2, (lSem s).val = 1 + s.val := by decide +kernel
/-- The number of a send semaphore. -/
theorem sSem_val : ∀ (g : Fin 3) (h : Fin 2), (sSem g h).val = 3 + (2 * g.val + h.val) := by decide +kernel
/-- The number of a receive semaphore. -/
theorem rSem_val : ∀ (g : Fin 3) (h : Fin 2), (rSem g h).val = 9 + (2 * g.val + h.val) := by decide +kernel
/-- The number of a local copy's semaphore. -/
theorem cSem_val : ∀ h : Fin 2, (cSem h).val = 15 + h.val := by decide +kernel

/-- The barrier's semaphore is a cell. -/
theorem ck_bar : ckOf (.reg barS) = some (.inl ()) := rfl
/-- A send semaphore is a cell. -/
theorem ck_send (g : Fin 3) (h : Fin 2) : ckOf (.dma (sSem g h)) = some (.inr (.inl (g, h))) := by
  show ckOfNat (sSem g h).val = _
  rw [sSem_val]; revert g h; decide
/-- A receive semaphore is a cell. -/
theorem ck_recv (g : Fin 3) (h : Fin 2) : ckOf (.dma (rSem g h)) = some (.inr (.inr (g, h))) := by
  show ckOfNat (rSem g h).val = _
  rw [rSem_val]; revert g h; decide
/-- A load semaphore is none. -/
theorem ck_load (s : Fin 2) : ckOf (.dma (lSem s)) = none := by
  show ckOfNat (lSem s).val = _
  rw [lSem_val]; revert s; decide
/-- A local copy's semaphore is none. -/
theorem ck_copy (h : Fin 2) : ckOf (.dma (cSem h)) = none := by
  show ckOfNat (cSem h).val = _
  rw [cSem_val]; revert h; decide

/-- The cell of a cell's semaphore is the cell. -/
theorem ckOf_csem (k : Ck) : ckOf (csem k) = some k :=
  match k with
  | .inl () => ck_bar
  | .inr (.inl (g, h)) => ck_send g h
  | .inr (.inr (g, h)) => ck_recv g h

/-- The credit of one transfer of a block of 1024 by 1024 elements. -/
def N : ℕ := 65536
/-- A transfer moves something. -/
theorem N_pos : 0 < N := by decide
/-- What a transfer out of a slot counts. -/
theorem y_credit (k : Fin 8) : (ySlot k).view.dmaCredit = N := Eq.trans (b := (ySlot 0).view.dmaCredit) rfl (by decide +kernel)
/-- What a transfer into a block counts. -/
theorem o_credit (c : Dev nD) (h : Fin 2) : (oBlk c h).view.dmaCredit = N :=
  Eq.trans (b := (ySlot 0).view.dmaCredit) rfl (y_credit 0)

/-! ## What the buffers hold -/

/-- Block `(s, h)` of device `c`'s result array. -/
def oPts (c s : Dev nD) (h : Fin 2) (f : Buf (Elt F) ((oBlk s h).view.loc (c : Thread nD τ))) : sProp 𝕄 :=
  (oBlk s h).view.loc (c : Thread nD τ) ↦[(oBlk s h).view.set]{fullShare} f
/-- Slot `k` of device `c`'s product buffer. -/
def yPts (c : Dev nD) (k : Fin 8) (f : Buf (Elt F) ((ySlot k).view.loc (c : Thread nD τ))) : sProp 𝕄 :=
  (ySlot k).view.loc (c : Thread nD τ) ↦[(ySlot k).view.set]{fullShare} f

omit [FloatOps F] in
/-- A block of a result array can be handed over. -/
instance oPts_storable (c s : Dev nD) (h : Fin 2) (f) : BI.Storable (upEmb : UEmb _ 𝕄) (oPts (F := F) c s h f) := by
  unfold oPts; infer_instance
omit [FloatOps F] in
/-- A slot can be handed over. -/
instance yPts_storable (c : Dev nD) (k : Fin 8) (f) : BI.Storable (upEmb : UEmb _ 𝕄) (yPts (F := F) c k f) := by
  unfold yPts; infer_instance

/-! ## The schedule -/

variable (m : (ℓ : Loc nD τ sig) → Buf (Elt F) ℓ)

/-- What the signal of device `p` to device `d` hands over: the two blocks of `p`'s result array that `d` writes. -/
def barPay (d p : Dev nD) : sProp 𝕄 := iprop((∃ f, oPts p d 0 f) ∗ (∃ f, oPts p d 1 f))
/-- What a block sent as `(g, h)` hands its receiver `d`. -/
def recvPay (d : Dev nD) (g : Fin 3) (h : Fin 2) : sProp 𝕄 := oPts d (peer d g) h (outC m d)
/-- What a slot sent as `(g, h)` hands back to its sender `d`. -/
def sendPay (d : Dev nD) (g : Fin 3) (h : Fin 2) : sProp 𝕄 := iprop(∃ f, yPts d (sndSlot g h) f)

/-- The duties of a cell of device `d`. -/
def dutiesOf (d : Dev nD) : Option Ck → Finset (Dev nD)
  | some (.inl _) => Finset.univ.erase d
  | some (.inr _) => {0}
  | none => ∅
/-- The credit of each. -/
def amountOf : Option Ck → ℕ
  | some (.inr _) => N
  | _ => 1
/-- What each hands over. -/
def payOf (d : Dev nD) (p : Dev nD) : Option Ck → sProp 𝕄
  | some (.inl _) => barPay d p
  | some (.inr (.inl x)) => sendPay d x.1 x.2
  | some (.inr (.inr x)) => recvPay m d x.1 x.2
  | none => iprop(emp)

/-- One round of every cell. -/
def Rd : Rounds.Schedule (GSem nD τ sig) (Dev nD) 𝕄 where
  duties g r := if r = 0 ∧ g.1.2 = .tc then dutiesOf g.1.1 (ckOf g.2) else ∅
  unitless _ := False
  amount g _ _ := amountOf (ckOf g.2)
  payload g _ p := payOf m g.1.1 p (ckOf g.2)
  amount_pos g _ _ _ := by
    cases ckOf g.2 with
    | none => exact Nat.one_pos
    | some k => cases k with
      | inl _ => exact Nat.one_pos
      | inr _ => exact N_pos

/-- So can what every duty hands over. -/
instance Rd_payload_storable (g : GSem nD τ sig) (r : ℕ) (p : Dev nD) :
    BI.Storable (upEmb : UEmb _ 𝕄) ((Rd (F := F) m).payload g r p) := by
  show BI.Storable upEmb (payOf m g.1.1 p (ckOf g.2))
  rcases ckOf g.2 with _ | _ | _ | _ <;> unfold payOf <;> unfold barPay sendPay recvPay <;> infer_instance

section Sched
variable (c : Dev nD) (g : Fin 3) (h : Fin 2)

/-- There are no duties after the first round. -/
theorem duties_later (q : GSem nD τ sig) : ∀ r, 1 ≤ r → (Rd (F := F) m).duties q r = ∅ :=
  fun r hr => if_neg fun h => by omega

/-- The barrier has a duty for each other device. -/
theorem duties_bar : (Rd (F := F) m).duties (barCell c) 0 = Finset.univ.erase c := by
  show (if 0 = 0 ∧ (c : Thread nD τ).2 = .tc then dutiesOf c (ckOf (.reg barS)) else ∅) = _
  rw [if_pos ⟨rfl, rfl⟩, ck_bar]; rfl
/-- A send cell has one duty. -/
theorem duties_send : (Rd (F := F) m).duties (sendCell c g h) 0 = {0} := by
  show (if 0 = 0 ∧ (c : Thread nD τ).2 = .tc then dutiesOf c (ckOf (.dma (sSem g h))) else ∅) = _
  rw [if_pos ⟨rfl, rfl⟩, ck_send]; rfl
/-- A receive cell has one duty. -/
theorem duties_recv : (Rd (F := F) m).duties (recvCell c g h) 0 = {0} := by
  show (if 0 = 0 ∧ (c : Thread nD τ).2 = .tc then dutiesOf c (ckOf (.dma (rSem g h))) else ∅) = _
  rw [if_pos ⟨rfl, rfl⟩, ck_recv]; rfl

/-- A signal counts one. -/
theorem amount_bar (p : Dev nD) : (Rd (F := F) m).amount (barCell c) 0 p = 1 := by
  show amountOf (ckOf (.reg barS)) = _; rw [ck_bar]; rfl
/-- A slot read out counts `N`. -/
theorem amount_send (p : Dev nD) : (Rd (F := F) m).amount (sendCell c g h) 0 p = N := by
  show amountOf (ckOf (.dma (sSem g h))) = _; rw [ck_send]; rfl
/-- An arrival counts `N`. -/
theorem amount_recv (p : Dev nD) : (Rd (F := F) m).amount (recvCell c g h) 0 p = N := by
  show amountOf (ckOf (.dma (rSem g h))) = _; rw [ck_recv]; rfl

/-- What a signal hands over. -/
theorem payload_bar (p : Dev nD) : (Rd (F := F) m).payload (barCell c) 0 p = barPay c p := by
  show payOf m c p (ckOf (.reg barS)) = _; rw [ck_bar]; rfl
/-- What a slot read out hands over. -/
theorem payload_send (p : Dev nD) : (Rd (F := F) m).payload (sendCell c g h) 0 p = sendPay c g h := by
  show payOf m c p (ckOf (.dma (sSem g h))) = _; rw [ck_send]; rfl
/-- What an arrival hands over. -/
theorem payload_recv (p : Dev nD) : (Rd (F := F) m).payload (recvCell c g h) 0 p = recvPay m c g h := by
  show payOf m c p (ckOf (.dma (rSem g h))) = _; rw [ck_recv]; rfl

/-- The barrier waits for three. -/
theorem expect_bar : (Rd (F := F) m).expect (barCell c) 0 = 3 := by
  unfold Schedule.expect Schedule.amountOf
  rw [duties_bar, Finset.sum_congr rfl fun p _ => amount_bar m c p, Finset.sum_const, smul_eq_mul, Nat.mul_one]
  revert c; decide
/-- A send cell waits for `N`. -/
theorem expect_send : (Rd (F := F) m).expect (sendCell c g h) 0 = N := by
  unfold Schedule.expect Schedule.amountOf; rw [duties_send, Finset.sum_singleton, amount_send]
/-- A receive cell waits for `N`. -/
theorem expect_recv : (Rd (F := F) m).expect (recvCell c g h) 0 = N := by
  unfold Schedule.expect Schedule.amountOf; rw [duties_recv, Finset.sum_singleton, amount_recv]

/-- What the barrier wait collects: the blocks the three peers hand over. -/
theorem rest_bar : bigSep ((Rd (F := F) m).duties (barCell c) 0 \ ∅) (fun p => (Rd (F := F) m).payload (barCell c) 0 p)
    = iprop(barPay c (peer c 0) ∗ barPay c (peer c 1) ∗ barPay c (peer c 2)) := by
  rw [Finset.sdiff_empty, duties_bar, bigSep_eq_bigSepL_of_eq [peer c 0, peer c 1, peer c 2] (by revert c; decide +kernel)
    (by revert c; decide +kernel), bigSepL_cons_cons, bigSepL_cons_cons, bigSepL_singleton, payload_bar, payload_bar, payload_bar]
  rfl
/-- All that a send cell's round hands over. -/
theorem rest_send : bigSep ((Rd (F := F) m).duties (sendCell c g h) 0 \ ∅)
    (fun p => (Rd (F := F) m).payload (sendCell c g h) 0 p) = sendPay c g h := by
  rw [Finset.sdiff_empty, duties_send, bigSep_singleton, payload_send]
/-- All that a receive cell's round hands over. -/
theorem rest_recv : bigSep ((Rd (F := F) m).duties (recvCell c g h) 0 \ ∅)
    (fun p => (Rd (F := F) m).payload (recvCell c g h) 0 p) = recvPay m c g h := by
  rw [Finset.sdiff_empty, duties_recv, bigSep_singleton, payload_recv]

end Sched

/-! ## What a device owes -/

/-- The transfer number `n`, of six. -/
abbrev xg (n : ℕ) : Fin 3 := ⟨n / 2 % 3, Nat.mod_lt _ (by decide)⟩
/-- The column half of the transfer. -/
abbrev xh (n : ℕ) : Fin 2 := ⟨n % 2, Nat.mod_lt _ (by decide)⟩

/-- What device `c` owes when its last `n` transfers are still to start: their receivers' credit. -/
def rem (c : Dev nD) : ℕ → CellTallies nD τ sig Unit
  | 0 => 0
  | n + 1 => rem c n + tallyAt (recvCell (peer c (xg (5 - n))) (xg (5 - n)) (xh (5 - n))) () N
/-- What it owes when its last `n` signals are still to come as well. -/
def bars (c : Dev nD) : ℕ → CellTallies nD τ sig Unit
  | 0 => rem c 6
  | n + 1 => bars c n + tallyAt (barCell (sigDev c ⟨2 - n, by omega⟩)) () 1
/-- What it owes at the start. -/
abbrev O₀ (c : Dev nD) : CellTallies nD τ sig Unit := bars c 3

/-- The TensorCores' cells are where credit is owed. -/
def L (q : GSem nD τ sig) : Finset Unit := if q.1.2 = .tc then {()} else ∅
/-- A barrier cell is below a received cell, and both are above every other cell. -/
def lvOf : Option Ck → ℕ
  | some (.inl _) => 1
  | some (.inr (.inr _)) => 2
  | _ => 0
/-- The level of a cell. -/
def lv (q : GSem nD τ sig) (_ : Unit) : ℕ := lvOf (ckOf q.2)

/-- Nothing is owed at other cells. -/
theorem L_of_ne (q : GSem nD τ sig) (h : q.1.2 ≠ .tc) : L q = ∅ := if_neg h
/-- At a TensorCore's cell one index is. -/
theorem L_tc (c : Dev nD) (sm : SemLoc sig) : L ((c : Thread nD τ), sm) = {()} := if_pos rfl

/-- Transfers are owed at level two. -/
theorem rem_pos (c : Dev nD) {q : GSem nD τ sig} {u : Unit} (n : ℕ) (h : 0 < rem c n q u) : u ∈ L q ∧ lv q u = 2 := by
  induction n with
  | zero => exact absurd h (Nat.lt_irrefl 0)
  | succ n ih =>
    rcases Pipeline.add_pos_cases h with h | h
    · exact ih h
    · obtain ⟨rfl, rfl⟩ := Pipeline.tallyAt_pos h
      exact ⟨by rw [L_tc]; exact Finset.mem_singleton_self _, by unfold lv; rw [ck_recv]; rfl⟩

/-- What is owed is owed above level zero. -/
theorem bars_pos (c : Dev nD) {q : GSem nD τ sig} {u : Unit} (n : ℕ) (h : 0 < bars c n q u) : u ∈ L q ∧ 0 < lv q u := by
  induction n with
  | zero => exact ⟨(rem_pos c 6 h).1, by rw [(rem_pos c 6 h).2]; decide⟩
  | succ n ih =>
    rcases Pipeline.add_pos_cases h with h | h
    · exact ih h
    · obtain ⟨rfl, rfl⟩ := Pipeline.tallyAt_pos h
      exact ⟨by rw [L_tc]; exact Finset.mem_singleton_self _, by unfold lv; rw [ck_bar]; decide⟩

/-- What a device may owe while it waits for one of its own transfers. -/
def Low (O : CellTallies nD τ sig Unit) : Prop := ∀ q u, 0 < O q u → u ∈ L q ∧ 0 < lv q u
/-- A device that owes nothing may wait. -/
theorem low_zero : Low 0 := fun q u h => absurd h (Nat.lt_irrefl 0)
/-- So may one that owes the transfers still to come. -/
theorem low_rem (c : Dev nD) (n : ℕ) : Low (rem c n) := fun q u h =>
  ⟨(rem_pos c n h).1, by rw [(rem_pos c n h).2]; decide⟩
/-- So may one that owes the signals and transfers still to come. -/
theorem low_bars (c : Dev nD) (n : ℕ) : Low (bars c n) := fun q u h => bars_pos c n h

/-- A wait on a cell below those owed to is allowed. -/
theorem mayWait_low (c : Dev nD) (sm : SemLoc sig) (hs : lvOf (ckOf sm) = 0) {O : CellTallies nD τ sig Unit} (hO : Low O) :
    (levAts L lv : sProp 𝕄) ⊢ MayWait (c : Thread nD τ) sm () O :=
  Pipeline.mayWait_of_levAts (by rw [L_tc]; exact Finset.mem_singleton_self _) fun q u hq =>
    ⟨(hO q u hq).1, by show lvOf (ckOf sm) < _; rw [hs]; exact (hO q u hq).2⟩

/-- At its barrier wait a device owes received cells only. -/
theorem mayWait_bar (c : Dev nD) (n : ℕ) : (levAts L lv : sProp 𝕄) ⊢ MayWait (c : Thread nD τ) (.reg barS) () (rem c n) :=
  Pipeline.mayWait_of_levAts (by rw [L_tc]; exact Finset.mem_singleton_self _) fun q u hq =>
    ⟨(rem_pos c n hq).1, by rw [(rem_pos c n hq).2]; show lvOf (ckOf (.reg barS)) < _; rw [ck_bar]; decide⟩

/-- What device `c` owes, whatever it has waited for. -/
def owesE (c : Dev nD) (O : CellTallies nD τ sig Unit) : sProp 𝕄 := iprop(∃ W, owes (c : Thread nD τ) O W)

end Cert.KernelIdealProof
-- ==== Proof.KernelIdeal.Steps.lean ====
/-
# The rules of the steps

One rule for each kind of step of the body: what it needs, and what holds after it. A rule is stated over whatever
follows the step, so the body's proof applies the rules in program order.
-/
module

public import proofs.«01_k».proof.Proof.KernelIdeal.Schedule

@[expose] public section

set_option synthInstance.maxSize 4096

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop of the program needs a variant. -/
abbrev 𝒱₀ : Variants := Variants.none

/-- Device `c`'s TensorCore runs `P` to a state where `Q` holds. -/
abbrev Runs (c : Dev nD) (P : TcProg F) (Q : PUnit.{1} → sProp 𝕄) : sProp 𝕄 :=
  wp frame (wpE (defs₀ (F := F)) 𝒱₀ (c : Thread nD τ) none) Set.univ P Q

/-! ## What the buffers hold -/

/-- The staged block of the left factor. -/
def xPts (c : Dev nD) : sProp 𝕄 := ((c : Thread nD τ).loc cc0_stg0_0) ↦{fullShare} (show Buf (Elt F) ((c : Thread nD τ).loc cc0_stg0_0) from xv m c)
/-- The right factor, whole. -/
def wPts (c : Dev nD) : sProp 𝕄 := ((c : Thread nD τ).loc main_arg1) ↦{fullShare} m ((c : Thread nD τ).loc main_arg1)
/-- Slot `s` of the load buffer. -/
def bPts (c : Dev nD) (s : Fin 2) (f : Buf (Elt F) ((bSlot s).view.loc (c : Thread nD τ))) : sProp 𝕄 :=
  (bSlot s).view.loc (c : Thread nD τ) ↦[(bSlot s).view.set]{fullShare} f
/-- Slot `s` of the load buffer, with any contents. -/
def bAny (c : Dev nD) (s : Fin 2) : sProp 𝕄 := iprop(∃ f, bPts c s f)
/-- Slot `s` of the load buffer, with the column block `v` in it. -/
def bHas (c : Dev nD) (s : Fin 2) (v : Vec F S4096x512 .f32) : sProp 𝕄 :=
  iprop(∃ f, bPts c s ((bSlot s).view.write (Elt F) f v Finset.univ))
/-- Slot `k` of the product buffer, with any contents. -/
def yAny (c : Dev nD) (k : Fin 8) : sProp 𝕄 := iprop(∃ f, yPts c k f)
/-- Slot `k` of the product buffer, full. -/
def yHas (c : Dev nD) (k : Fin 8) : sProp 𝕄 := iprop(∃ f, ⌜(ySlot k).view.read (Elt F) f = slotVal m c k⌝ ∗ yPts c k f)
/-- Block `(s, h)` of device `c`'s result array, with any contents. -/
def oAny (c s : Dev nD) (h : Fin 2) : sProp 𝕄 := iprop(∃ f, oPts c s h f)
/-- The counter of one of the device's own transfer semaphores stands at zero. -/
abbrev zero (c : Dev nD) (q : DmaSem sig) : sProp 𝕄 := semVal ((c : Thread nD τ), SemLoc.dma q) 0

/-! ## The invariants of the cells -/

/-- Every cell's invariant, and that every cell is at its round. -/
def records (κ : Dev nD × Ck → ℕ) : sProp 𝕄 :=
  iprop((bigSep Finset.univ fun ck : Dev nD × Ck => cellInv ER (Rd m) (κ ck) (kcell ck))
    ∗ bigSep Finset.univ fun ck : Dev nD × Ck => reached ER (kcell ck) 0)
/-- The records can be kept. -/
instance records_persistent (κ : Dev nD × Ck → ℕ) : BI.Persistent (records m κ) := by unfold records; infer_instance

/-- The invariant of one cell. -/
theorem inv_at (κ : Dev nD × Ck → ℕ) (ck : Dev nD × Ck) : records m κ ⊢ cellInv ER (Rd m) (κ ck) (kcell ck) := by
  have e : (bigSep Finset.univ fun ck : Dev nD × Ck => (cellInv ER (Rd m) (κ ck) (kcell ck) : sProp 𝕄))
      ⊢ cellInv ER (Rd m) (κ ck) (kcell ck) := bigSep_elim (Finset.mem_univ ck)
  unfold records
  iintro ⟨H, -⟩
  iapply e
  iexact H
/-- One cell's first round is reached. -/
theorem reached_at (κ : Dev nD × Ck → ℕ) (ck : Dev nD × Ck) : records m κ ⊢ reached ER (kcell ck) 0 := by
  have e : (bigSep Finset.univ fun ck : Dev nD × Ck => (reached ER (kcell ck) 0 : sProp 𝕄))
      ⊢ reached ER (kcell ck) 0 := bigSep_elim (Finset.mem_univ ck)
  unfold records
  iintro ⟨-, H⟩
  iapply e
  iexact H

section Steps

variable (κ : Dev nD × Ck → ℕ) (c : Dev nD) (P : TcProg F)

/-! ## The barrier -/

/-- A signal hands the signalled device the two blocks it will write. -/
theorem sig_step (Q : PUnit.{1} → sProp 𝕄) (k : Fin 3) (O O₀ : CellTallies nD τ sig Unit) (hO : O₀ = O + tallyAt (barCell (sigDev c k)) () 1) :
    iprop(records m κ ∗ owesE c O₀ ∗ dutyTok ER (barCell (sigDev c k)) 0 c ∗ oAny c (sigDev c k) 0 ∗ oAny c (sigDev c k) 1)
      ⊢ iprop((owesE c O -∗ Runs c P Q) -∗ Runs c (sigP c k P) Q) := by
  unfold owesE sigP
  iintro ⟨#HR, ⟨%W, HO⟩, Ht, H0, H1⟩ Hk
  ihave #HI := (inv_at m κ (sigDev c k, .inl ())) $$ HR
  ihave #Hr := (reached_at m κ (sigDev c k, .inl ())) $$ HR
  iapply (Rounds.wp_signal 𝒱₀ ER (Rd m) (c : Thread nD τ) none (dst := (sigDev c k : Thread nD τ)) (κ := κ (sigDev c k, .inl ()))
      (d := c) (by rw [duties_bar]; exact Finset.mem_erase.mpr ⟨sig_ne c k, Finset.mem_univ _⟩)
      ((amount_bar m (sigDev c k) c).trans (by decide)) () O hO) $$ [HO Ht H0 H1]
  · isplitr; · iexact HI
    isplitl [HO]; · iexact HO
    isplitl [Ht]; · iexact Ht
    isplitl [H0 H1]
    · rw [payload_bar]; unfold barPay
      unfold oAny
      isplitl [H0] <;> iassumption
    iexact Hr
  iintro HO
  iapply Hk
  iexists W; iexact HO

/-- The barrier wait collects the blocks of the peers' result arrays this device writes. -/
theorem bar_step (Q : PUnit.{1} → sProp 𝕄) (n : ℕ) :
    iprop(records m κ ∗ levAts L lv ∗ owesE c (rem c n) ∗ cred (tallyAt (barCell c) () 3) ∗ atPos ER (barCell c) 0 ∅ 0)
      ⊢ iprop(((owesE c (rem c n) ∗ semVal (barCell c) 0 ∗ barPay c (peer c 0) ∗ barPay c (peer c 1) ∗ barPay c (peer c 2)) -∗ Runs c P Q)
          -∗ Runs c (barP P) Q) := by
  unfold owesE barP
  iintro ⟨#HR, #Hlev, ⟨%W, HO⟩, Hc, Hat⟩ Hk
  ihave #HI := (inv_at m κ (c, .inl ())) $$ HR
  iapply (Rounds.wp_wait_rest_token 𝒱₀ ER (Rd m) (c : Thread nD τ) none (κ := κ (c, .inl ()))
      (wpE_semWait_eq 𝒱₀ (c : Thread nD τ) none Set.univ) (Set.mem_univ _) () (O := rem c n) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c n); iexact Hlev
    iexact Hat
  iintro ⟨HO, Hat, -, Hpay⟩
  ihave Hp := (Entails.of_eq (rest_bar m c)) $$ Hpay
  imod (Rounds.cell_close ER (Rd m) (Set.mem_univ (κ (c, .inl ()))) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-! ## Loading the column blocks -/

/-- The credit of one load. -/
abbrev NB : ℕ := (bSlot 0).view.dmaCredit
/-- A load moves something. -/
theorem NB_pos : 0 < NB := View.dmaCredit_pos _ (by decide)
/-- What a load into a slot counts. -/
theorem b_credit (s : Fin 2) : (bSlot s).view.dmaCredit = NB := rfl
/-- What it adds to its semaphore. -/
theorem b_amount (s : Fin 2) : (bSlot s).view.amount (SemLoc.dma (lSem s)) = NB := rfl

/-- Column block `t` is on its way into slot `s`. -/
def loading (s : Fin 2) (t : Fin 16) : sProp 𝕄 :=
  iprop((∃ f, Transfers.Flight countersEmb (c : Thread nD τ) (.dma (lSem s)) () NB
      iprop(bPts c s ((bSlot s).view.write (Elt F) f (wv m c t) Finset.univ)
        ∗ ((wCol c t).view.loc (c : Thread nD τ) ↦[(wCol c t).view.set]{fullShare} m ((c : Thread nD τ).loc main_arg1))))
    ∗ (((c : Thread nD τ).loc main_arg1) ↦[Finset.univ \ (wCol c t).view.set]{fullShare} m ((c : Thread nD τ).loc main_arg1)))

/-- Starting a load lends the column block and the slot to the transfer. -/
theorem start_step (Q : PUnit.{1} → sProp 𝕄) (s : Fin 2) (t : Fin 16) :
    iprop(wPts m c ∗ bAny c s ∗ zero c (lSem s)) ⊢ iprop((loading m c s t -∗ Runs c P Q) -∗ Runs c (startP c s t P) Q) := by
  unfold wPts bAny startP
  iintro ⟨Hw, ⟨%f, Hb⟩, Hz⟩ Hk
  ihave Hw' := (pointsTo_split_subset (Finset.subset_univ (wCol c t).view.set)) $$ Hw
  icases Hw' with ⟨Hw1, Hw2⟩
  unfold bPts
  iapply (Transfers.wp_dmaLocal countersEmb 𝒱₀ (c : Thread nD τ) none (via := .same) () NB (b_amount s) NB_pos subset_rfl) $$ [Hw1 Hb Hz]
  · isplitl [Hw1]; · iexact Hw1
    isplitl [Hb]; · iexact Hb
    iexact Hz
  iintro HF
  iapply Hk
  unfold loading
  isplitl [HF]
  · iexists f; unfold bPts; iexact HF
  iexact Hw2

/-- Once the load is awaited the slot holds the column block. -/
theorem loaded_step (Q : PUnit.{1} → sProp 𝕄) (s : Fin 2) (t : Fin 16) (O : CellTallies nD τ sig Unit) (hO : Low O) :
    iprop(levAts L lv ∗ owesE c O ∗ loading m c s t)
      ⊢ iprop(((owesE c O ∗ wPts m c ∗ bHas c s (wv m c t) ∗ zero c (lSem s)) -∗ Runs c P Q) -∗ Runs c (loadedP c s t P) Q) := by
  unfold owesE loading loadedP
  iintro ⟨#Hlev, ⟨%W, HO⟩, ⟨%f, HF⟩, Hw2⟩ Hk
  iapply (Transfers.wp_waitLocalO countersEmb 𝒱₀ (c : Thread nD τ) none () (N := NB) (b_credit s) (O := O) (W := W)) $$ [HF HO]
  · isplitl [HF]; · iexact HF
    isplitl [HO]; · iexact HO
    iapply (mayWait_low c (.dma (lSem s)) (by rw [ck_load]; rfl) hO); iexact Hlev
  iintro ⟨⟨Hb, Hw1⟩, Hz, HO⟩
  iapply Hk
  isplitl [HO]; · iexists _; iexact HO
  isplitl [Hw1 Hw2]
  · unfold wPts
    iapply (pointsTo_split_subset (Finset.subset_univ (wCol c t).view.set)).2
    isplitl [Hw1] <;> iassumption
  isplitl [Hb]; · unfold bHas; iexists f; iexact Hb
  iexact Hz

/-! ## One product block -/

/-- Multiplying writes the product of the left block by the column block in the slot. -/
theorem mult_step (Q : PUnit.{1} → sProp 𝕄) (s : Fin 2) (k : Fin 8) (t : Fin 16) (f : Buf (Elt F) ((ySlot k).view.loc (c : Thread nD τ))) :
    iprop(xPts m c ∗ bHas c s (wv m c t) ∗ yPts c k f)
      ⊢ iprop(((xPts m c ∗ bAny c s ∗ yPts c k ((yM.access (yhRect k s)).write (Elt F) f (tile m c t) Finset.univ)) -∗ Runs c P Q)
          -∗ Runs c (multP s k P) Q) := by
  unfold xPts bHas bAny bPts yPts multP
  iintro ⟨Hx, ⟨%g, Hb⟩, Hy⟩ Hk
  iapply (wp_load 𝒱₀ (c : Thread nD τ) none Set.univ (m := bM) (bRect_subset s)) $$ Hb; iintro Hb
  rw [read_loaded]
  iapply (wp_load 𝒱₀ (c : Thread nD τ) none Set.univ (m := xM) (Finset.subset_univ _)) $$ Hx; iintro Hx
  rw [read_x]
  iapply (wp_load 𝒱₀ (c : Thread nD τ) none Set.univ (m := yM) (yh_load_subset k s)) $$ Hy; iintro Hy
  iapply (wp_store 𝒱₀ (c : Thread nD τ) none Set.univ (m := yM) (r := yhRect k s) (Mk := Finset.univ) (yh_subset k s)) $$ Hy
  iintro Hy
  iapply Hk
  isplitl [Hx]; · iexact Hx
  isplitl [Hb]; · iexists _; iexact Hb
  iexact Hy

end Steps

end Cert.KernelIdealProof
-- ==== Proof.KernelIdeal.Slots.lean ====
/-
# Filling a slot, sending it, and awaiting the transfers

The rules of the steps between devices and of the local copies, and the rule of a whole slot: two column blocks, each
awaited and multiplied while the next one loads.
-/
module

public import proofs.«01_k».proof.Proof.KernelIdeal.Steps

@[expose] public section

set_option synthInstance.maxSize 4096

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (κ : Dev nD × Ck → ℕ) (c : Dev nD) (P : TcProg F)

/-! ## A slot -/

/-- The device's own state while column block `t` loads into slot 0. -/
def busy (O : CellTallies nD τ sig Unit) (t : Fin 16) : sProp 𝕄 :=
  iprop(owesE c O ∗ xPts m c ∗ loading m c 0 t ∗ bAny c 1 ∗ zero c (lSem 1))
/-- The device's own state when nothing loads. -/
def idle (O : CellTallies nD τ sig Unit) : sProp 𝕄 :=
  iprop(owesE c O ∗ xPts m c ∗ wPts m c ∗ (bAny c 0 ∗ bAny c 1) ∗ zero c (lSem 0) ∗ zero c (lSem 1))

/-- A slot both halves of which are written is full. -/
theorem yHas_intro (k : Fin 8) (f : Buf (Elt F) ((ySlot k).view.loc (c : Thread nD τ))) :
    yPts c k ((yM.access (yhRect k 1)).write (Elt F)
      ((yM.access (yhRect k 0)).write (Elt F) f (tile m c (ev k)) Finset.univ) (tile m c (od k)) Finset.univ) ⊢ yHas m c k := by
  unfold yHas
  iintro Hy
  iexists _
  isplitr; · ipureintro; exact read_stored k f _ _
  iexact Hy

/-- Filling slot `k`, the first column block of slot `k'` left loading. -/
theorem fill_step (Q : PUnit.{1} → sProp 𝕄) (k k' : Fin 8) (O : CellTallies nD τ sig Unit) (hO : Low O) :
    iprop(levAts L lv ∗ busy m c O (ev k) ∗ yAny c k)
      ⊢ iprop(((busy m c O (ev k') ∗ yHas m c k) -∗ Runs c P Q) -∗ Runs c (fillP c k k' P) Q) := by
  unfold busy yAny
  iintro ⟨#Hlev, ⟨HO, Hx, Hld, Hb1, Hz1⟩, ⟨%f, Hy⟩⟩ Hk
  iapply (loaded_step m c _ Q 0 (ev k) O hO) $$ [HO Hld]
  · isplitr; · iexact Hlev
    isplitl [HO] <;> iassumption
  iintro ⟨HO, Hw, Hb0, Hz0⟩
  iapply (start_step m c _ Q 1 (od k)) $$ [Hw Hb1 Hz1]
  · isplitl [Hw]; · iexact Hw
    isplitl [Hb1] <;> iassumption
  iintro Hld
  iapply (mult_step m c _ Q 0 k (ev k) f) $$ [Hx Hb0 Hy]
  · isplitl [Hx]; · iexact Hx
    isplitl [Hb0] <;> iassumption
  iintro ⟨Hx, Hb0, Hy⟩
  iapply (loaded_step m c _ Q 1 (od k) O hO) $$ [HO Hld]
  · isplitr; · iexact Hlev
    isplitl [HO] <;> iassumption
  iintro ⟨HO, Hw, Hb1, Hz1⟩
  iapply (start_step m c _ Q 0 (ev k')) $$ [Hw Hb0 Hz0]
  · isplitl [Hw]; · iexact Hw
    isplitl [Hb0] <;> iassumption
  iintro Hld
  iapply (mult_step m c _ Q 1 k (od k) _) $$ [Hx Hb1 Hy]
  · isplitl [Hx]; · iexact Hx
    isplitl [Hb1] <;> iassumption
  iintro ⟨Hx, Hb1, Hy⟩
  iapply Hk
  isplitr [Hy]
  · isplitl [HO]; · iexact HO
    isplitl [Hx]; · iexact Hx
    isplitl [Hld]; · iexact Hld
    isplitl [Hb1] <;> iassumption
  iapply (yHas_intro m c k f); iexact Hy

/-- Filling the last slot. -/
theorem fillLast_step (Q : PUnit.{1} → sProp 𝕄) (k : Fin 8) (O : CellTallies nD τ sig Unit) (hO : Low O) :
    iprop(levAts L lv ∗ busy m c O (ev k) ∗ yAny c k)
      ⊢ iprop(((idle m c O ∗ yHas m c k) -∗ Runs c P Q) -∗ Runs c (fillLastP c k P) Q) := by
  unfold busy idle yAny
  iintro ⟨#Hlev, ⟨HO, Hx, Hld, Hb1, Hz1⟩, ⟨%f, Hy⟩⟩ Hk
  iapply (loaded_step m c _ Q 0 (ev k) O hO) $$ [HO Hld]
  · isplitr; · iexact Hlev
    isplitl [HO] <;> iassumption
  iintro ⟨HO, Hw, Hb0, Hz0⟩
  iapply (start_step m c _ Q 1 (od k)) $$ [Hw Hb1 Hz1]
  · isplitl [Hw]; · iexact Hw
    isplitl [Hb1] <;> iassumption
  iintro Hld
  iapply (mult_step m c _ Q 0 k (ev k) f) $$ [Hx Hb0 Hy]
  · isplitl [Hx]; · iexact Hx
    isplitl [Hb0] <;> iassumption
  iintro ⟨Hx, Hb0, Hy⟩
  iapply (loaded_step m c _ Q 1 (od k) O hO) $$ [HO Hld]
  · isplitr; · iexact Hlev
    isplitl [HO] <;> iassumption
  iintro ⟨HO, Hw, Hb1, Hz1⟩
  iapply (mult_step m c _ Q 1 k (od k) _) $$ [Hx Hb1 Hy]
  · isplitl [Hx]; · iexact Hx
    isplitl [Hb1] <;> iassumption
  iintro ⟨Hx, Hb1, Hy⟩
  iapply Hk
  isplitr [Hy]
  · isplitl [HO]; · iexact HO
    isplitl [Hx]; · iexact Hx
    isplitl [Hw]; · iexact Hw
    isplitl [Hb0 Hb1]; · isplitl [Hb0] <;> iassumption
    isplitl [Hz0] <;> iassumption
  iapply (yHas_intro m c k f); iexact Hy

/-! ## The transfers between devices -/

/-- What a slot sent to device `d` makes of the block it lands in. -/
theorem landed (d : Dev nD) (h : Fin 2) (k : Fin 8) (hk : k = srcSlot c d h)
    (fs : Buf (Elt F) ((ySlot k).view.loc (c : Thread nD τ))) (hfs : (ySlot k).view.read (Elt F) fs = slotVal m c k)
    (fd : Buf (Elt F) ((oBlk c h).view.loc (d : Thread nD τ))) :
    oPts d c h ((oBlk c h).view.write (Elt F) fd ((ySlot k).view.read (Elt F) fs) Finset.univ) ⊢ oPts d c h (outC m d) := by
  rw [hfs]
  unfold oPts
  exact Entails.of_eq (pointsTo_congr (write_out m c d h k hk fd))

/-- The credit of a block does not depend on the semaphore. -/
theorem o_amount (h : Fin 2) (q : DmaSem sig) : (oBlk c h).view.amount (.dma q) = N := o_credit c h

/-- A transfer: the slot and the block it lands in go to the two cells, as their payloads. -/
theorem send_step (Q : PUnit.{1} → sProp 𝕄) (g : Fin 3) (h : Fin 2) (k : Fin 8) (hk : k = sndSlot g h) (O O₀ : CellTallies nD τ sig Unit)
    (hO : O₀ = O + tallyAt (recvCell (peer c g) g h) () N) :
    iprop(records m κ ∗ owesE c O₀ ∗ yHas m c k ∗ oAny (peer c g) c h
        ∗ dutyTok ER (sendCell c g h) 0 0 ∗ dutyTok ER (recvCell (peer c g) g h) 0 0)
      ⊢ iprop(((owesE c O ∗ cred (tallyAt (sendCell c g h) () N)) -∗ Runs c P Q) -∗ Runs c (sendP c g h k P) Q) := by
  have hsrc : k = srcSlot c (peer c g) h := hk.trans (srcSlot_peer c g h)
  have hback : peer (sendDev c g h) g = c := by rw [sendDev_eq, peer_peer]
  rw [← sendDev_eq c g h] at hO hsrc ⊢
  unfold owesE yHas oAny sendP
  iintro ⟨#HR, ⟨%W, HO⟩, ⟨%fs, %hfs, Hy⟩, ⟨%fd, Ho⟩, HtS, HtV⟩ Hk
  ihave #HIS := (inv_at m κ (c, .inr (.inl (g, h)))) $$ HR
  ihave #HrS := (reached_at m κ (c, .inr (.inl (g, h)))) $$ HR
  ihave #HIV := (inv_at m κ (sendDev c g h, .inr (.inr (g, h)))) $$ HR
  ihave #HrV := (reached_at m κ (sendDev c g h, .inr (.inr (g, h)))) $$ HR
  have hp1 : yPts c k fs ⊢ (Rd (F := F) m).payload (sendCell c g h) 0 0 := by
    rw [payload_send]; unfold sendPay; subst hk
    iintro H; iexists fs; iexact H
  have hp2 : oPts (sendDev c g h) c h ((oBlk c h).view.write (Elt F) fd ((ySlot k).view.read (Elt F) fs) Finset.univ)
      ⊢ (Rd (F := F) m).payload (recvCell (sendDev c g h) g h) 0 0 := by
    rw [payload_recv]; unfold recvPay; rw [hback]
    exact landed m c (sendDev c g h) h k hsrc fs hfs fd
  unfold yPts at hp1
  unfold oPts at hp2
  unfold yPts oPts
  iapply (Rounds.wp_send_pointsTo 𝒱₀ ER (Rd m) (c : Thread nD τ) none (κ₁ := κ (c, .inr (.inl (g, h))))
      (κ₂ := κ (sendDev c g h, .inr (.inr (g, h)))) (r₁ := 0) (r₂ := 0) (d₁ := 0) (d₂ := 0) (fd := fd)
      (by rw [duties_send]; exact Finset.mem_singleton_self _) (by rw [duties_recv]; exact Finset.mem_singleton_self _)
      () () N (o_amount c h _) (amount_send m c g h 0) (amount_recv m (sendDev c g h) g h 0) O hO (W := W) hp1 hp2) $$ [Hy Ho HO HtS HtV]
  · isplitr; · iexact HIS
    isplitr; · iexact HIV
    isplitl [Hy]; · iexact Hy
    isplitl [Ho]; · iexact Ho
    isplitl [HO]; · iexact HO
    isplitl [HtS]; · iexact HtS
    isplitr; · iexact HrS
    isplitl [HtV]; · iexact HtV
    iexact HrV
  iintro ⟨Hc, HO⟩
  iapply Hk
  isplitl [HO]; · iexists W; iexact HO
  iexact Hc

/-- Awaiting an arrival gives the block with its final contents, and closes the cell. -/
theorem recv_step (Q : PUnit.{1} → sProp 𝕄) (g : Fin 3) (h : Fin 2) (k : Fin 8) :
    iprop(records m κ ∗ owesE c 0 ∗ cred (tallyAt (recvCell c g h) () N) ∗ atPos ER (recvCell c g h) 0 ∅ 0)
      ⊢ iprop(((owesE c 0 ∗ zero c (rSem g h) ∗ oPts c (peer c g) h (outC m c)) -∗ Runs c P Q) -∗ Runs c (recvP c g h k P) Q) := by
  unfold owesE recvP
  iintro ⟨#HR, ⟨%W, HO⟩, Hc, Hat⟩ Hk
  ihave #HI := (inv_at m κ (c, .inr (.inr (g, h)))) $$ HR
  iapply (Rounds.wp_wait_rest_token 𝒱₀ ER (Rd m) (c : Thread nD τ) none (κ := κ (c, .inr (.inr (g, h))))
      (wpE_waitDma2_eq 𝒱₀ (c : Thread nD τ) none Set.univ) (Set.mem_univ _) () (O := 0) (W := W) (R := 0) (m := 0) (T := ∅)
      (by rw [Nat.zero_add, expect_recv]; exact o_credit c 0)) $$ [Hc HO Hat]
  · isplitr; · iexact HI
    isplitl [Hc]; · rw [o_credit c 0]; iexact Hc
    isplitl [HO]; · iexact HO
    isplitr; · rw [MayWait_zero]; iempintro
    iexact Hat
  iintro ⟨HO, Hat, -, Hpay⟩
  ihave Hp := (Entails.of_eq (rest_recv m c g h)) $$ Hpay
  imod (Rounds.cell_close ER (Rd m) (Set.mem_univ (κ (c, .inr (.inr (g, h))))) (fun h => h) (R := 0 + 1)
    (duties_later m (recvCell c g h))) $$ [Hat] with Hz
  · isplitr; · iexact HI
    iexact Hat
  iapply Hk
  isplitl [HO]; · iexists _; iexact HO
  isplitl [Hz]; · iexact Hz
  unfold recvPay; iexact Hp

/-- Awaiting that a slot has been read out gives it back, and closes the cell. -/
theorem sent_step (Q : PUnit.{1} → sProp 𝕄) (g : Fin 3) (h : Fin 2) (k : Fin 8) (hk : k = sndSlot g h) :
    iprop(records m κ ∗ owesE c 0 ∗ cred (tallyAt (sendCell c g h) () N) ∗ atPos ER (sendCell c g h) 0 ∅ 0)
      ⊢ iprop(((owesE c 0 ∗ zero c (sSem g h) ∗ yAny c k) -∗ Runs c P Q) -∗ Runs c (sentP c g h k P) Q) := by
  unfold owesE sentP
  iintro ⟨#HR, ⟨%W, HO⟩, Hc, Hat⟩ Hk
  ihave #HI := (inv_at m κ (c, .inr (.inl (g, h)))) $$ HR
  iapply (Rounds.wp_wait_rest_token 𝒱₀ ER (Rd m) (c : Thread nD τ) none (κ := κ (c, .inr (.inl (g, h))))
      (wpE_waitDma2_eq 𝒱₀ (c : Thread nD τ) none Set.univ) (Set.mem_univ _) () (O := 0) (W := W) (R := 0) (m := 0) (T := ∅)
      (by rw [Nat.zero_add, expect_send]; exact y_credit k)) $$ [Hc HO Hat]
  · isplitr; · iexact HI
    isplitl [Hc]; · rw [y_credit k]; iexact Hc
    isplitl [HO]; · iexact HO
    isplitr; · rw [MayWait_zero]; iempintro
    iexact Hat
  iintro ⟨HO, Hat, -, Hpay⟩
  ihave Hp := (Entails.of_eq (rest_send m c g h)) $$ Hpay
  imod (Rounds.cell_close ER (Rd m) (Set.mem_univ (κ (c, .inr (.inl (g, h))))) (fun h => h) (R := 0 + 1)
    (duties_later m (sendCell c g h))) $$ [Hat] with Hz
  · isplitr; · iexact HI
    iexact Hat
  iapply Hk
  isplitl [HO]; · iexists _; iexact HO
  isplitl [Hz]; · iexact Hz
  unfold sendPay yAny; subst hk; iexact Hp

/-! ## The local copies -/

/-- Slot `k` is on its way into half `h` of the device's own rows. -/
def copying (h : Fin 2) (k : Fin 8) : sProp 𝕄 :=
  iprop(∃ fs fd, ⌜(ySlot k).view.read (Elt F) fs = slotVal m c k⌝
    ∗ Transfers.Flight countersEmb (c : Thread nD τ) (.dma (cSem h)) () N
      iprop(oPts c c h ((oBlk c h).view.write (Elt F) fd ((ySlot k).view.read (Elt F) fs) Finset.univ) ∗ yPts c k fs))

/-- Starting a local copy lends it the slot and the block. -/
theorem copy_step (Q : PUnit.{1} → sProp 𝕄) (h : Fin 2) (k : Fin 8) :
    iprop(yHas m c k ∗ oAny c c h ∗ zero c (cSem h)) ⊢ iprop((copying m c h k -∗ Runs c P Q) -∗ Runs c (copyP c h k P) Q) := by
  unfold yHas oAny copyP
  iintro ⟨⟨%fs, %hfs, Hy⟩, ⟨%fd, Ho⟩, Hz⟩ Hk
  unfold yPts oPts
  iapply (Transfers.wp_dmaLocal countersEmb 𝒱₀ (c : Thread nD τ) none (via := .same) () N (o_amount c h _) N_pos subset_rfl) $$ [Hy Ho Hz]
  · isplitl [Hy]; · iexact Hy
    isplitl [Ho]; · iexact Ho
    iexact Hz
  iintro HF
  iapply Hk
  unfold copying
  iexists fs; iexists fd
  isplitr; · ipureintro; exact hfs
  unfold oPts yPts
  iexact HF

/-- Once a local copy is awaited the block has its final contents. -/
theorem copied_step (Q : PUnit.{1} → sProp 𝕄) (h : Fin 2) (k : Fin 8) (hk : k = ownSlot h) :
    iprop(owesE c 0 ∗ copying m c h k)
      ⊢ iprop(((owesE c 0 ∗ zero c (cSem h) ∗ oPts c c h (outC m c) ∗ yAny c k) -∗ Runs c P Q) -∗ Runs c (copiedP c h k P) Q) := by
  unfold owesE copying copiedP
  iintro ⟨⟨%W, HO⟩, ⟨%fs, %fd, %hfs, HF⟩⟩ Hk
  iapply (Transfers.wp_waitLocalO countersEmb 𝒱₀ (c : Thread nD τ) none () (N := N) (o_credit c h) (O := 0) (W := W)) $$ [HF HO]
  · isplitl [HF]; · iexact HF
    isplitl [HO]; · iexact HO
    rw [MayWait_zero]; iempintro
  iintro ⟨⟨Ho, Hy⟩, Hz, HO⟩
  iapply Hk
  isplitl [HO]; · iexists _; iexact HO
  isplitl [Hz]; · iexact Hz
  isplitl [Ho]
  · iapply (landed m c c h k (hk.trans (srcSlot_self c h)) fs hfs fd); iexact Ho
  unfold yAny; iexists fs; iexact Hy

end Cert.KernelIdealProof
-- ==== Proof.KernelIdeal.Body.lean ====
/-
# The body

What a device holds when its body starts, what it holds when the body ends, and that the body leads from the one to the
other: the rules of the steps, applied in program order.
-/
module

public import proofs.«01_k».proof.Proof.KernelIdeal.Slots

@[expose] public section

set_option synthInstance.maxSize 4096

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (κ : Dev nD × Ck → ℕ) (c : Dev nD)

/-! ## Lists of resources -/

/-- One resource for every transfer between devices. -/
def all6 (Φ : Fin 3 → Fin 2 → sProp 𝕄) : sProp 𝕄 := iprop(Φ 0 0 ∗ Φ 0 1 ∗ Φ 1 0 ∗ Φ 1 1 ∗ Φ 2 0 ∗ Φ 2 1)
/-- One resource for every slot of the product buffer. -/
def all8 (Φ : Fin 8 → sProp 𝕄) : sProp 𝕄 := iprop(Φ 0 ∗ Φ 1 ∗ Φ 2 ∗ Φ 3 ∗ Φ 4 ∗ Φ 5 ∗ Φ 6 ∗ Φ 7)

/-- The list is one resource for each pair `(g, h)`. -/
theorem all6_eq (Φ : Fin 3 → Fin 2 → sProp 𝕄) : all6 Φ = bigSep Finset.univ fun x : X => Φ x.1 x.2 :=
  (bigSep_univ_eq_bigSepL [((0 : Fin 3), (0 : Fin 2)), (0, 1), (1, 0), (1, 1), (2, 0), (2, 1)] (by decide) (by decide) (fun x : X => Φ x.1 x.2)).symm
/-- Two resources for every transfer are one pair for every transfer. -/
theorem all6_sep (Φ Ψ : Fin 3 → Fin 2 → sProp 𝕄) : all6 (fun g h => iprop(Φ g h ∗ Ψ g h)) = iprop(all6 Φ ∗ all6 Ψ) := by
  rw [all6_eq, all6_eq, all6_eq, bigSep_sep']

/-- The right to start the transfer `(g, h)`: the duties at its two cells. -/
def sendTok (g : Fin 3) (h : Fin 2) : sProp 𝕄 :=
  iprop(dutyTok ER (sendCell c g h) 0 0 ∗ dutyTok ER (recvCell (peer c g) g h) 0 0)
/-- The right to await the transfers `(g, h)`: the positions at the device's own two cells, and the credit of the
    arrival. -/
def waitTok (g : Fin 3) (h : Fin 2) : sProp 𝕄 :=
  iprop(atPos ER (sendCell c g h) 0 ∅ 0 ∗ atPos ER (recvCell c g h) 0 ∅ 0 ∗ cred (tallyAt (recvCell c g h) () N))
/-- The right to signal the `k`-th other device, and the blocks the signal hands over. -/
def sigTok (k : Fin 3) : sProp 𝕄 :=
  iprop(dutyTok ER (barCell (sigDev c k)) 0 c ∗ oAny c (sigDev c k) 0 ∗ oAny c (sigDev c k) 1)

/-- What the device holds when its body starts. -/
def start : sProp 𝕄 :=
  iprop((records m κ ∗ levAts L lv)
    ∗ (owesE c (O₀ c) ∗ (sigTok c 0 ∗ sigTok c 1 ∗ sigTok c 2)
        ∗ cred (tallyAt (barCell c) () 3) ∗ atPos ER (barCell c) 0 ∅ 0)
    ∗ (all6 (sendTok c) ∗ all6 (waitTok c))
    ∗ (oAny c c 0 ∗ oAny c c 1)
    ∗ (xPts m c ∗ wPts m c ∗ (bAny c 0 ∗ bAny c 1) ∗ all8 (yAny c))
    ∗ zero c (lSem 0) ∗ zero c (lSem 1) ∗ zero c (cSem 0) ∗ zero c (cSem 1))

/-- What it holds when its body ends: nothing owed, every block of its result array with its final contents, every
    counter at zero. -/
def finish : sProp 𝕄 :=
  iprop(owesE c 0
    ∗ (all6 (fun g h => oPts c (peer c g) h (outC m c)) ∗ oPts c c 0 (outC m c) ∗ oPts c c 1 (outC m c))
    ∗ (xPts m c ∗ wPts m c ∗ (bAny c 0 ∗ bAny c 1) ∗ all8 (yAny c))
    ∗ (semVal (barCell c) 0 ∗ all6 (fun g h => zero c (sSem g h)) ∗ all6 (fun g h => zero c (rSem g h)))
    ∗ zero c (lSem 0) ∗ zero c (lSem 1) ∗ zero c (cSem 0) ∗ zero c (cSem 1))

/-- The device's own state while column block `t` loads, what it owes apart. -/
def busyRest (t : Fin 16) : sProp 𝕄 := iprop(xPts m c ∗ loading m c 0 t ∗ bAny c 1 ∗ zero c (lSem 1))
/-- The parts of the state while column block `t` loads, put together. -/
theorem busy_intro (O : CellTallies nD τ sig Unit) (t : Fin 16) :
    iprop(owesE c O ∗ xPts m c ∗ loading m c 0 t ∗ bAny c 1 ∗ zero c (lSem 1)) ⊢ busy m c O t := Entails.of_eq rfl
/-- What the device owes, taken out of that state. -/
theorem busy_elim (O : CellTallies nD τ sig Unit) (t : Fin 16) : busy m c O t ⊢ iprop(owesE c O ∗ busyRest m c t) := Entails.of_eq rfl
/-- What it owes, put back. -/
theorem busy_back (O : CellTallies nD τ sig Unit) (t : Fin 16) : iprop(owesE c O ∗ busyRest m c t) ⊢ busy m c O t := Entails.of_eq rfl
/-- After the last column block nothing loads and nothing is owed. -/
theorem idle_elim : idle m c (rem c 0)
    ⊢ iprop(owesE c 0 ∗ xPts m c ∗ wPts m c ∗ (bAny c 0 ∗ bAny c 1) ∗ zero c (lSem 0) ∗ zero c (lSem 1)) := Entails.of_eq rfl

/-- What a signal hands over, named. -/
theorem barPay_eq (d p : Dev nD) : (barPay d p : sProp 𝕄) = iprop(oAny p d 0 ∗ oAny p d 1) := rfl

/-- The body leads from `start` to `finish`. -/
theorem prog_runs (Q : PUnit.{1} → sProp 𝕄) : start m κ c ⊢ iprop((finish m c -∗ Q ⟨⟩) -∗ Runs c (prog c) Q) := by
  unfold start all6 all8 sendTok waitTok sigTok
  iintro ⟨⟨#HR, #Hlev⟩, ⟨HO, ⟨⟨Hs0, Hp00, Hp01⟩, ⟨Hs1, Hp10, Hp11⟩, ⟨Hs2, Hp20, Hp21⟩⟩, Hbc, Hba⟩,
    ⟨⟨⟨Hts0, Htr0⟩, ⟨Hts1, Htr1⟩, ⟨Hts2, Htr2⟩, ⟨Hts3, Htr3⟩, ⟨Hts4, Htr4⟩, ⟨Hts5, Htr5⟩⟩,
      ⟨⟨Has0, Har0, Hcr0⟩, ⟨Has1, Har1, Hcr1⟩, ⟨Has2, Har2, Hcr2⟩, ⟨Has3, Har3, Hcr3⟩, ⟨Has4, Har4, Hcr4⟩, ⟨Has5, Har5, Hcr5⟩⟩⟩,
    ⟨Ho0, Ho1⟩, ⟨Hx, Hw, ⟨Hb0, Hb1⟩, ⟨Hy0, Hy1, Hy2, Hy3, Hy4, Hy5, Hy6, Hy7⟩⟩, Hl0, Hl1, Hz0, Hz1⟩ Hk
  iapply (sig_step m κ c _ Q 0 (bars c 2) (bars c 3) rfl) $$ [HO Hs0 Hp00 Hp01]
  · isplitr; · iexact HR
    isplitl [HO]; · iexact HO
    isplitl [Hs0]; · iexact Hs0
    isplitl [Hp00] <;> iassumption
  iintro HO
  iapply (sig_step m κ c _ Q 1 (bars c 1) (bars c 2) rfl) $$ [HO Hs1 Hp10 Hp11]
  · isplitr; · iexact HR
    isplitl [HO]; · iexact HO
    isplitl [Hs1]; · iexact Hs1
    isplitl [Hp10] <;> iassumption
  iintro HO
  iapply (sig_step m κ c _ Q 2 (bars c 0) (bars c 1) rfl) $$ [HO Hs2 Hp20 Hp21]
  · isplitr; · iexact HR
    isplitl [HO]; · iexact HO
    isplitl [Hs2]; · iexact Hs2
    isplitl [Hp20] <;> iassumption
  iintro HO
  iapply (start_step m c _ Q 0 (ev 0)) $$ [Hw Hb0 Hl0]
  · isplitl [Hw]; · iexact Hw
    isplitl [Hb0] <;> iassumption
  iintro Hld
  ihave Hbusy := (busy_intro m c (rem c 6) (ev 0)) $$ [HO Hx Hld Hb1 Hl1]
  · isplitl [HO]; · iexact HO
    isplitl [Hx]; · iexact Hx
    isplitl [Hld]; · iexact Hld
    isplitl [Hb1] <;> iassumption
  iapply (fill_step m c _ Q 0 1 (rem c 6) (low_rem c 6)) $$ [Hbusy Hy0]
  · isplitr; · iexact Hlev
    isplitl [Hbusy] <;> iassumption
  iintro ⟨Hbusy, Hy0⟩
  ihave ⟨HO, Hbusy⟩ := (busy_elim m c _ _) $$ Hbusy
  iapply (bar_step m κ c _ Q 6) $$ [HO Hbc Hba]
  · isplitr; · iexact HR
    isplitr; · iexact Hlev
    isplitl [HO]; · iexact HO
    isplitl [Hbc] <;> iassumption
  rw [barPay_eq, barPay_eq, barPay_eq]
  iintro ⟨HO, Hbz, ⟨Hq0, Hq1⟩, ⟨Hq2, Hq3⟩, ⟨Hq4, Hq5⟩⟩
  iapply (send_step m κ c _ Q 0 0 0 rfl (rem c 5) (rem c 6) rfl) $$ [HO Hy0 Hq0 Hts0 Htr0]
  · isplitr; · iexact HR
    isplitl [HO]; · iexact HO
    isplitl [Hy0]; · iexact Hy0
    isplitl [Hq0]; · iexact Hq0
    isplitl [Hts0] <;> iassumption
  iintro ⟨HO, Hcs0⟩
  ihave Hbusy := (busy_back m c (rem c 5) (ev 1)) $$ [HO Hbusy]
  · isplitl [HO] <;> iassumption
  iapply (fill_step m c _ Q 1 2 (rem c 5) (low_rem c 5)) $$ [Hbusy Hy1]
  · isplitr; · iexact Hlev
    isplitl [Hbusy] <;> iassumption
  iintro ⟨Hbusy, Hy1⟩
  ihave ⟨HO, Hbusy⟩ := (busy_elim m c _ _) $$ Hbusy
  iapply (send_step m κ c _ Q 0 1 1 rfl (rem c 4) (rem c 5) rfl) $$ [HO Hy1 Hq1 Hts1 Htr1]
  · isplitr; · iexact HR
    isplitl [HO]; · iexact HO
    isplitl [Hy1]; · iexact Hy1
    isplitl [Hq1]; · iexact Hq1
    isplitl [Hts1] <;> iassumption
  iintro ⟨HO, Hcs1⟩
  ihave Hbusy := (busy_back m c (rem c 4) (ev 2)) $$ [HO Hbusy]
  · isplitl [HO] <;> iassumption
  iapply (fill_step m c _ Q 2 3 (rem c 4) (low_rem c 4)) $$ [Hbusy Hy2]
  · isplitr; · iexact Hlev
    isplitl [Hbusy] <;> iassumption
  iintro ⟨Hbusy, Hy2⟩
  ihave ⟨HO, Hbusy⟩ := (busy_elim m c _ _) $$ Hbusy
  iapply (send_step m κ c _ Q 1 0 2 rfl (rem c 3) (rem c 4) rfl) $$ [HO Hy2 Hq2 Hts2 Htr2]
  · isplitr; · iexact HR
    isplitl [HO]; · iexact HO
    isplitl [Hy2]; · iexact Hy2
    isplitl [Hq2]; · iexact Hq2
    isplitl [Hts2] <;> iassumption
  iintro ⟨HO, Hcs2⟩
  ihave Hbusy := (busy_back m c (rem c 3) (ev 3)) $$ [HO Hbusy]
  · isplitl [HO] <;> iassumption
  iapply (fill_step m c _ Q 3 4 (rem c 3) (low_rem c 3)) $$ [Hbusy Hy3]
  · isplitr; · iexact Hlev
    isplitl [Hbusy] <;> iassumption
  iintro ⟨Hbusy, Hy3⟩
  ihave ⟨HO, Hbusy⟩ := (busy_elim m c _ _) $$ Hbusy
  iapply (send_step m κ c _ Q 1 1 3 rfl (rem c 2) (rem c 3) rfl) $$ [HO Hy3 Hq3 Hts3 Htr3]
  · isplitr; · iexact HR
    isplitl [HO]; · iexact HO
    isplitl [Hy3]; · iexact Hy3
    isplitl [Hq3]; · iexact Hq3
    isplitl [Hts3] <;> iassumption
  iintro ⟨HO, Hcs3⟩
  ihave Hbusy := (busy_back m c (rem c 2) (ev 4)) $$ [HO Hbusy]
  · isplitl [HO] <;> iassumption
  iapply (fill_step m c _ Q 4 5 (rem c 2) (low_rem c 2)) $$ [Hbusy Hy4]
  · isplitr; · iexact Hlev
    isplitl [Hbusy] <;> iassumption
  iintro ⟨Hbusy, Hy4⟩
  ihave ⟨HO, Hbusy⟩ := (busy_elim m c _ _) $$ Hbusy
  iapply (send_step m κ c _ Q 2 0 4 rfl (rem c 1) (rem c 2) rfl) $$ [HO Hy4 Hq4 Hts4 Htr4]
  · isplitr; · iexact HR
    isplitl [HO]; · iexact HO
    isplitl [Hy4]; · iexact Hy4
    isplitl [Hq4]; · iexact Hq4
    isplitl [Hts4] <;> iassumption
  iintro ⟨HO, Hcs4⟩
  ihave Hbusy := (busy_back m c (rem c 1) (ev 5)) $$ [HO Hbusy]
  · isplitl [HO] <;> iassumption
  iapply (fill_step m c _ Q 5 6 (rem c 1) (low_rem c 1)) $$ [Hbusy Hy5]
  · isplitr; · iexact Hlev
    isplitl [Hbusy] <;> iassumption
  iintro ⟨Hbusy, Hy5⟩
  ihave ⟨HO, Hbusy⟩ := (busy_elim m c _ _) $$ Hbusy
  iapply (send_step m κ c _ Q 2 1 5 rfl (rem c 0) (rem c 1) rfl) $$ [HO Hy5 Hq5 Hts5 Htr5]
  · isplitr; · iexact HR
    isplitl [HO]; · iexact HO
    isplitl [Hy5]; · iexact Hy5
    isplitl [Hq5]; · iexact Hq5
    isplitl [Hts5] <;> iassumption
  iintro ⟨HO, Hcs5⟩
  ihave Hbusy := (busy_back m c (rem c 0) (ev 6)) $$ [HO Hbusy]
  · isplitl [HO] <;> iassumption
  iapply (fill_step m c _ Q 6 7 (rem c 0) (low_rem c 0)) $$ [Hbusy Hy6]
  · isplitr; · iexact Hlev
    isplitl [Hbusy] <;> iassumption
  iintro ⟨Hbusy, Hy6⟩
  iapply (copy_step m c _ Q 0 6) $$ [Hy6 Ho0 Hz0]
  · isplitl [Hy6]; · iexact Hy6
    isplitl [Ho0] <;> iassumption
  iintro Hcp0
  iapply (fillLast_step m c _ Q 7 (rem c 0) (low_rem c 0)) $$ [Hbusy Hy7]
  · isplitr; · iexact Hlev
    isplitl [Hbusy] <;> iassumption
  iintro ⟨Hidle, Hy7⟩
  iapply (copy_step m c _ Q 1 7) $$ [Hy7 Ho1 Hz1]
  · isplitl [Hy7]; · iexact Hy7
    isplitl [Ho1] <;> iassumption
  iintro Hcp1
  ihave ⟨HO, Hx, Hw, Hb, Hl0, Hl1⟩ := (idle_elim m c) $$ Hidle
  iapply (recv_step m κ c _ Q 0 0 0) $$ [HO Hcr0 Har0]
  · isplitr; · iexact HR
    isplitl [HO]; · iexact HO
    isplitl [Hcr0] <;> iassumption
  iintro ⟨HO, Hrz0, Hq0⟩
  iapply (recv_step m κ c _ Q 0 1 1) $$ [HO Hcr1 Har1]
  · isplitr; · iexact HR
    isplitl [HO]; · iexact HO
    isplitl [Hcr1] <;> iassumption
  iintro ⟨HO, Hrz1, Hq1⟩
  iapply (recv_step m κ c _ Q 1 0 2) $$ [HO Hcr2 Har2]
  · isplitr; · iexact HR
    isplitl [HO]; · iexact HO
    isplitl [Hcr2] <;> iassumption
  iintro ⟨HO, Hrz2, Hq2⟩
  iapply (recv_step m κ c _ Q 1 1 3) $$ [HO Hcr3 Har3]
  · isplitr; · iexact HR
    isplitl [HO]; · iexact HO
    isplitl [Hcr3] <;> iassumption
  iintro ⟨HO, Hrz3, Hq3⟩
  iapply (recv_step m κ c _ Q 2 0 4) $$ [HO Hcr4 Har4]
  · isplitr; · iexact HR
    isplitl [HO]; · iexact HO
    isplitl [Hcr4] <;> iassumption
  iintro ⟨HO, Hrz4, Hq4⟩
  iapply (recv_step m κ c _ Q 2 1 5) $$ [HO Hcr5 Har5]
  · isplitr; · iexact HR
    isplitl [HO]; · iexact HO
    isplitl [Hcr5] <;> iassumption
  iintro ⟨HO, Hrz5, Hq5⟩
  iapply (sent_step m κ c _ Q 0 0 0 rfl) $$ [HO Hcs0 Has0]
  · isplitr; · iexact HR
    isplitl [HO]; · iexact HO
    isplitl [Hcs0] <;> iassumption
  iintro ⟨HO, Hsz0, Hy0⟩
  iapply (sent_step m κ c _ Q 0 1 1 rfl) $$ [HO Hcs1 Has1]
  · isplitr; · iexact HR
    isplitl [HO]; · iexact HO
    isplitl [Hcs1] <;> iassumption
  iintro ⟨HO, Hsz1, Hy1⟩
  iapply (sent_step m κ c _ Q 1 0 2 rfl) $$ [HO Hcs2 Has2]
  · isplitr; · iexact HR
    isplitl [HO]; · iexact HO
    isplitl [Hcs2] <;> iassumption
  iintro ⟨HO, Hsz2, Hy2⟩
  iapply (sent_step m κ c _ Q 1 1 3 rfl) $$ [HO Hcs3 Has3]
  · isplitr; · iexact HR
    isplitl [HO]; · iexact HO
    isplitl [Hcs3] <;> iassumption
  iintro ⟨HO, Hsz3, Hy3⟩
  iapply (sent_step m κ c _ Q 2 0 4 rfl) $$ [HO Hcs4 Has4]
  · isplitr; · iexact HR
    isplitl [HO]; · iexact HO
    isplitl [Hcs4] <;> iassumption
  iintro ⟨HO, Hsz4, Hy4⟩
  iapply (sent_step m κ c _ Q 2 1 5 rfl) $$ [HO Hcs5 Has5]
  · isplitr; · iexact HR
    isplitl [HO]; · iexact HO
    isplitl [Hcs5] <;> iassumption
  iintro ⟨HO, Hsz5, Hy5⟩
  iapply (copied_step m c _ Q 0 6 rfl) $$ [HO Hcp0]
  · isplitl [HO] <;> iassumption
  iintro ⟨HO, Hz0, Ho0, Hy6⟩
  iapply (copied_step m c _ Q 1 7 rfl) $$ [HO Hcp1]
  · isplitl [HO] <;> iassumption
  iintro ⟨HO, Hz1, Ho1, Hy7⟩
  unfold Runs
  rw [wp_ret]
  imodintro
  iapply Hk
  unfold finish all6 all8
  isplitl [HO]; · iexact HO
  isplitl [Hq0 Hq1 Hq2 Hq3 Hq4 Hq5 Ho0 Ho1]
  · isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4] <;> iassumption
    isplitl [Ho0] <;> iassumption
  isplitl [Hx Hw Hb Hy0 Hy1 Hy2 Hy3 Hy4 Hy5 Hy6 Hy7]
  · isplitl [Hx]; · iexact Hx
    isplitl [Hw]; · iexact Hw
    isplitl [Hb]; · iexact Hb
    isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6] <;> iassumption
  isplitl [Hbz Hsz0 Hsz1 Hsz2 Hsz3 Hsz4 Hsz5 Hrz0 Hrz1 Hrz2 Hrz3 Hrz4 Hrz5]
  · isplitl [Hbz]; · iexact Hbz
    isplitl [Hsz0 Hsz1 Hsz2 Hsz3 Hsz4 Hsz5]
    · isplitl [Hsz0]; · iexact Hsz0
      isplitl [Hsz1]; · iexact Hsz1
      isplitl [Hsz2]; · iexact Hsz2
      isplitl [Hsz3]; · iexact Hsz3
      isplitl [Hsz4] <;> iassumption
    isplitl [Hrz0]; · iexact Hrz0
    isplitl [Hrz1]; · iexact Hrz1
    isplitl [Hrz2]; · iexact Hrz2
    isplitl [Hrz3]; · iexact Hrz3
    isplitl [Hrz4] <;> iassumption
  isplitl [Hl0]; · iexact Hl0
  isplitl [Hl1]; · iexact Hl1
  isplitl [Hz0] <;> iassumption

end Cert.KernelIdealProof
-- ==== Proof.KernelIdeal.Memory.lean ====
/-
# The buffers in parts

The launch gives a device its buffers whole; the body holds them part by part. This module splits the result array into
its blocks and the two working buffers into their slots, and joins them again.
-/
module

public import proofs.«01_k».proof.Proof.KernelIdeal.Body
public import Idealize.ShloMosaic.Lib.Ring

@[expose] public section

set_option synthInstance.maxSize 4096

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

/-! ## The result array -/

/-- The elements of a block of the result array. -/
def oSet (b : Dev nD × Fin 2) : Finset (Idx ((c : Thread nD τ).loc main_v1)) := (oBlk b.1 b.2).view.set
/-- The blocks of a result array do not meet, -/
theorem o_disjoint (b b' : Dev nD × Fin 2) (hb : b ≠ b') : Disjoint (oSet c b) (oSet c b') :=
  Finset.disjoint_left.mpr fun i hi hi' => by
    obtain ⟨h1, h2⟩ := (mem_oBlk _ _ i).mp hi
    obtain ⟨h1', h2'⟩ := (mem_oBlk _ _ i).mp hi'
    exact hb (Prod.ext (Fin.ext (h1.symm.trans h1')) (Fin.ext (h2.symm.trans h2')))
/-- every element is in one, -/
theorem o_some (i : S4096x2048.Idx) : ∃ b : Dev nD × Fin 2, i ∈ (oBlk b.1 b.2).view.set := by
  have h0 : (i 0).val < 4096 := (i 0).isLt
  have h1 : (i 1).val < 2048 := (i 1).isLt
  exact ⟨(⟨(i 0).val / 1024, show _ < 4 by omega⟩, ⟨(i 1).val / 1024, by omega⟩), (mem_oBlk _ _ i).mpr ⟨rfl, rfl⟩⟩
/-- and so they make it up. -/
theorem o_cover : Finset.univ.biUnion (oSet c) = Finset.univ :=
  Finset.eq_univ_iff_forall.mpr fun i => Finset.mem_biUnion.mpr (Exists.imp (fun b h => ⟨Finset.mem_univ _, h⟩) (o_some i))

/-- The result array, whole. -/
def oAll (f : Buf (Elt F) ((c : Thread nD τ).loc main_v1)) : sProp 𝕄 := ((c : Thread nD τ).loc main_v1) ↦{fullShare} f

/-- One resource for each block, listed by four devices that are all of them. -/
theorem blocks_list (d₀ d₁ d₂ d₃ : Dev nD) (hd : [d₀, d₁, d₂, d₃].Nodup) (ha : Finset.univ = [d₀, d₁, d₂, d₃].toFinset)
    (Φ : Dev nD → Fin 2 → sProp 𝕄) :
    (bigSep Finset.univ fun b : Dev nD × Fin 2 => Φ b.1 b.2)
      = iprop((Φ d₀ 0 ∗ Φ d₀ 1) ∗ (Φ d₁ 0 ∗ Φ d₁ 1) ∗ (Φ d₂ 0 ∗ Φ d₂ 1) ∗ (Φ d₃ 0 ∗ Φ d₃ 1)) := by
  rw [bigSep_univ_prod, bigSep_univ_eq_bigSepL [d₀, d₁, d₂, d₃] ha hd, bigSepL_cons_cons, bigSepL_cons_cons, bigSepL_cons_cons,
    bigSepL_singleton]
  simp only [bigSep_univ_eq_bigSepL [(0 : Fin 2), 1] (by decide) (by decide), bigSepL_cons_cons, bigSepL_singleton]
  rfl

/-- The three devices a device signals and the device itself are all devices, -/
theorem sigDev_nodup : ∀ c : Dev nD, [sigDev c 0, sigDev c 1, sigDev c 2, c].Nodup := by decide +kernel
/-- The three devices signalled and the device itself are all devices. -/
theorem sigDev_all : ∀ c : Dev nD, Finset.univ = [sigDev c 0, sigDev c 1, sigDev c 2, c].toFinset := by decide +kernel
/-- and so are the three it sends to and itself. -/
theorem peer_nodup : ∀ c : Dev nD, [peer c 0, peer c 1, peer c 2, c].Nodup := by decide +kernel
/-- The three peers and the device itself are all devices. -/
theorem peer_all : ∀ c : Dev nD, Finset.univ = [peer c 0, peer c 1, peer c 2, c].toFinset := by decide +kernel

/-- The result array is its blocks. -/
theorem oAll_eq (d₀ d₁ d₂ d₃ : Dev nD) (hd : [d₀, d₁, d₂, d₃].Nodup) (ha : Finset.univ = [d₀, d₁, d₂, d₃].toFinset)
    (f : Buf (Elt F) ((c : Thread nD τ).loc main_v1)) :
    oAll c f = iprop((oPts c d₀ 0 f ∗ oPts c d₀ 1 f) ∗ (oPts c d₁ 0 f ∗ oPts c d₁ 1 f)
      ∗ (oPts c d₂ 0 f ∗ oPts c d₂ 1 f) ∗ (oPts c d₃ 0 f ∗ oPts c d₃ 1 f)) :=
  (Ring.pointsTo_blocks (oSet c) (o_disjoint c) (o_cover c) f).trans
    (blocks_list d₀ d₁ d₂ d₃ hd ha fun s h => oPts c s h f)

/-- Before the run: the blocks each peer is to write, in the order of the signals, and the device's own. -/
theorem o_split (f : Buf (Elt F) ((c : Thread nD τ).loc main_v1)) :
    oAll c f ⊢ iprop((oAny c (sigDev c 0) 0 ∗ oAny c (sigDev c 0) 1) ∗ (oAny c (sigDev c 1) 0 ∗ oAny c (sigDev c 1) 1)
      ∗ (oAny c (sigDev c 2) 0 ∗ oAny c (sigDev c 2) 1) ∗ (oAny c c 0 ∗ oAny c c 1)) := by
  have e (s : Dev nD) (h : Fin 2) : oPts c s h f ⊢ oAny c s h := by unfold oAny; iintro H; iexists f; iexact H
  rw [oAll_eq c (sigDev c 0) (sigDev c 1) (sigDev c 2) c (sigDev_nodup c) (sigDev_all c)]
  iintro ⟨⟨H0, H1⟩, ⟨H2, H3⟩, ⟨H4, H5⟩, H6, H7⟩
  isplitl [H0 H1]
  · isplitl [H0]; · iapply (e _ _); iexact H0
    iapply (e _ _); iexact H1
  isplitl [H2 H3]
  · isplitl [H2]; · iapply (e _ _); iexact H2
    iapply (e _ _); iexact H3
  isplitl [H4 H5]
  · isplitl [H4]; · iapply (e _ _); iexact H4
    iapply (e _ _); iexact H5
  isplitl [H6]; · iapply (e _ _); iexact H6
  iapply (e _ _); iexact H7

/-- After it: all blocks hold their final contents. -/
theorem o_join (f : Buf (Elt F) ((c : Thread nD τ).loc main_v1)) :
    iprop(all6 (fun g h => oPts c (peer c g) h f) ∗ oPts c c 0 f ∗ oPts c c 1 f) ⊢ oAll c f := by
  rw [oAll_eq c (peer c 0) (peer c 1) (peer c 2) c (peer_nodup c) (peer_all c)]
  unfold all6
  iintro ⟨⟨H0, H1, H2, H3, H4, H5⟩, H6, H7⟩
  isplitl [H0 H1]; · isplitl [H0] <;> iassumption
  isplitl [H2 H3]; · isplitl [H2] <;> iassumption
  isplitl [H4 H5]; · isplitl [H4] <;> iassumption
  isplitl [H6] <;> iassumption

/-! ## The working buffers -/

/-- The elements of a slot of the load buffer. -/
def bSet (s : Fin 2) : Finset (Idx ((c : Thread nD τ).loc cc0_scratch0)) := (bSlot s).view.set
/-- The slots of the load buffer do not meet, -/
theorem b_disjoint (s s' : Fin 2) (h : s ≠ s') : Disjoint (bSet c s) (bSet c s') :=
  Finset.disjoint_left.mpr fun i hi hi' => h (Fin.ext (((mem_bSlot s i).mp hi).symm.trans ((mem_bSlot s' i).mp hi')))
/-- and make it up. -/
theorem b_cover : Finset.univ.biUnion (bSet c) = Finset.univ :=
  Finset.eq_univ_iff_forall.mpr fun i => Finset.mem_biUnion.mpr ⟨(i 0), Finset.mem_univ _, (mem_bSlot _ i).mpr rfl⟩
/-- The elements of a slot of the product buffer. -/
def ySet (k : Fin 8) : Finset (Idx ((c : Thread nD τ).loc cc0_scratch1)) := (ySlot k).view.set
/-- The slots of the product buffer do not meet, -/
theorem y_disjoint (k k' : Fin 8) (h : k ≠ k') : Disjoint (ySet c k) (ySet c k') :=
  Finset.disjoint_left.mpr fun i hi hi' => h (Fin.ext (((mem_ySlot k i).mp hi).symm.trans ((mem_ySlot k' i).mp hi')))
/-- and make it up. -/
theorem y_cover : Finset.univ.biUnion (ySet c) = Finset.univ :=
  Finset.eq_univ_iff_forall.mpr fun i => Finset.mem_biUnion.mpr ⟨(i 0), Finset.mem_univ _, (mem_ySlot _ i).mpr rfl⟩

/-- The load buffer, whole. -/
def bAll : sProp 𝕄 := iprop(∃ f : Buf (Elt F) ((c : Thread nD τ).loc cc0_scratch0), ((c : Thread nD τ).loc cc0_scratch0) ↦{fullShare} f)
/-- The product buffer, whole. -/
def yAll : sProp 𝕄 := iprop(∃ f : Buf (Elt F) ((c : Thread nD τ).loc cc0_scratch1), ((c : Thread nD τ).loc cc0_scratch1) ↦{fullShare} f)

/-- The load buffer's slots, listed. -/
theorem b_list : (bigSep Finset.univ fun s : Fin 2 => (bAny c s : sProp 𝕄)) = iprop(bAny c 0 ∗ bAny c 1) :=
  bigSep_univ_eq_bigSepL [0, 1] (by decide) (by decide) _
/-- The product buffer's slots, listed. -/
theorem y_list : (bigSep Finset.univ fun k : Fin 8 => (yAny c k : sProp 𝕄)) = all8 (yAny c) :=
  bigSep_univ_eq_bigSepL [0, 1, 2, 3, 4, 5, 6, 7] (by decide) (by decide) _

/-- The load buffer in its two slots. -/
theorem b_split : bAll c ⊢ iprop(bAny c 0 ∗ bAny c 1 : sProp 𝕄) := by
  unfold bAll
  rw [← b_list]
  iintro ⟨%f, H⟩
  ihave H' := (Entails.of_eq (Ring.pointsTo_blocks (bSet c) (b_disjoint c) (b_cover c) f)) $$ H
  have e₁ (s : Fin 2) : bPts c s f ⊢ bAny c s := by unfold bAny; iintro H; iexists f; iexact H
  have e : (bigSep Finset.univ fun s : Fin 2 => bPts c s f) ⊢ (bigSep Finset.univ fun s : Fin 2 => (bAny c s : sProp 𝕄)) :=
    bigSep_mono fun s _ => e₁ s
  iapply e; unfold bPts; iexact H'
/-- Its two slots are the load buffer. -/
theorem b_join : iprop(bAny c 0 ∗ bAny c 1) ⊢ (bAll c : sProp 𝕄) := by
  rw [← b_list]
  have : Nonempty (Buf (Elt F) ((c : Thread nD τ).loc cc0_scratch0)) := inferInstance
  exact Ring.pointsTo_blocks_join_exists (bSet c) (b_disjoint c) (b_cover c) this.some
/-- The product buffer in its eight slots. -/
theorem y_split : yAll c ⊢ (all8 (yAny c) : sProp 𝕄) := by
  unfold yAll
  rw [← y_list]
  iintro ⟨%f, H⟩
  ihave H' := (Entails.of_eq (Ring.pointsTo_blocks (ySet c) (y_disjoint c) (y_cover c) f)) $$ H
  have e₁ (k : Fin 8) : yPts c k f ⊢ yAny c k := by unfold yAny; iintro H; iexists f; iexact H
  have e : (bigSep Finset.univ fun k : Fin 8 => yPts c k f) ⊢ (bigSep Finset.univ fun k : Fin 8 => (yAny c k : sProp 𝕄)) :=
    bigSep_mono fun k _ => e₁ k
  iapply e; unfold yPts; iexact H'
/-- Its eight slots are the product buffer. -/
theorem y_join : all8 (yAny c) ⊢ (yAll c : sProp 𝕄) := by
  rw [← y_list]
  have : Nonempty (Buf (Elt F) ((c : Thread nD τ).loc cc0_scratch1)) := inferInstance
  exact Ring.pointsTo_blocks_join_exists (ySet c) (y_disjoint c) (y_cover c) this.some

end Cert.KernelIdealProof
-- ==== Proof.KernelIdeal.Point.lean ====
/-
# The body as the pipeline calls it

The kernel has one grid point: its left factor is staged whole, the body runs once. This module gives the pipeline's
data of that point, and shows that the body keeps its side.
-/
module

public import proofs.«01_k».proof.Proof.KernelIdeal.Memory
public import proofs.«01_k».proof.Proof.Gen.KernelIdeal.Launch
public import proofs.«01_k».proof.Proof.Gen.KernelIdeal.Points
public import Idealize.ShloMosaic.Lib.Pipeline.FrameBody

@[expose] public section

set_option synthInstance.maxSize 4096

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The one point -/

/-- The state of device `c`'s cells once allocated: every cell's invariant, its positions, and its rights to signal and to
    send; and the counters of its own transfers, at zero. -/
def ghost (c : Dev nD) : sProp 𝕄 :=
  iprop((∃ κ, records m κ)
    ∗ ((dutyTok ER (barCell (sigDev c 0)) 0 c ∗ dutyTok ER (barCell (sigDev c 1)) 0 c ∗ dutyTok ER (barCell (sigDev c 2)) 0 c)
        ∗ all6 (sendTok c))
    ∗ (atPos ER (barCell c) 0 ∅ 0 ∗ all6 (fun g h => atPos ER (sendCell c g h) 0 ∅ 0) ∗ all6 (fun g h => atPos ER (recvCell c g h) 0 ∅ 0))
    ∗ zero c (lSem 0) ∗ zero c (lSem 1) ∗ zero c (cSem 0) ∗ zero c (cSem 1))

/-- The credit device `c` starts with: its barrier's, and that of each arrival. -/
def credits (c : Dev nD) : sProp 𝕄 :=
  iprop(cred (tallyAt (barCell c) () 3) ∗ all6 (fun g h => cred (tallyAt (recvCell c g h) () N)))

/-- What device `c` brings to the point beside its scoped buffers. -/
def entry (c : Dev nD) : sProp 𝕄 :=
  iprop(ghost m c ∗ credits c ∗ levAts L lv ∗ wPts m c ∗ oAll c (m ((c : Thread nD τ).loc main_v1)))

/-- What device `c` takes from it: the right factor unchanged, the result array with its final contents, and its counters
    at zero. -/
def exit (c : Dev nD) : sProp 𝕄 :=
  iprop(wPts m c ∗ oAll c (outC m c) ∗ semVal (barCell c) 0)
/-- The counters of the device's own semaphores, at zero. -/
def zeros (c : Dev nD) : sProp 𝕄 :=
  iprop((all6 (fun g h => zero c (sSem g h)) ∗ all6 (fun g h => zero c (rSem g h)))
    ∗ zero c (lSem 0) ∗ zero c (lSem 1) ∗ zero c (cSem 0) ∗ zero c (cSem 1))

/-- Before the point. -/
def before (c : Dev nD) : sProp 𝕄 := iprop(entry m c ∗ bAll c ∗ yAll c)
/-- After it. -/
def after (c : Dev nD) : sProp 𝕄 := iprop(exit m c ∗ zeros c ∗ bAll c ∗ yAll c)

/-- The pipeline's data: the staged left factor stays, and everything owed is paid at the point. -/
def dats (_ : Fin 1) (c : Dev nD) : Dat τ (Elt F) Unit ℕ UU ℕ cfg0 c where
  A w := m ((cfg0.win w).arr.view.loc (c : Thread nD τ))
  after w _ := match w with
    | ⟨0, _⟩ => xv m c
  Φ t := match t with
    | ⟨0, _⟩ => before m c
    | ⟨_ + 1, _⟩ => after m c
  q _ := fullShare
  owed t := match t with
    | ⟨0, _⟩ => O₀ c
    | ⟨_ + 1, _⟩ => 0

/-- The positions and the credit of the transfers, transfer by transfer. -/
theorem all6_waits (c : Dev nD) :
    iprop(all6 (fun g h => atPos ER (sendCell c g h) 0 ∅ 0) ∗ all6 (fun g h => atPos ER (recvCell c g h) 0 ∅ 0)
      ∗ all6 (fun g h => cred (tallyAt (recvCell c g h) () N))) ⊢ (all6 (waitTok c) : sProp 𝕄) :=
  Entails.of_eq (by rw [← all6_sep, ← all6_sep]; rfl)

/-- What the device holds before the point is what its body starts from. -/
theorem start_of (c : Dev nD) :
    iprop(before m c ∗ owesE c (O₀ c) ∗ xPts m c) ⊢ (iprop(∃ κ, start m κ c) : sProp 𝕄) := by
  unfold before entry ghost credits start sigTok
  iintro ⟨⟨⟨⟨⟨%κ, #HR⟩, ⟨⟨Ht0, Ht1, Ht2⟩, Hts⟩, ⟨Hab, Has, Har⟩, Hz⟩, ⟨Hcb, Hcr⟩, #Hlev, Hw, Ho⟩, Hb, Hy⟩, HO, Hx⟩
  ihave ⟨⟨Ho00, Ho01⟩, ⟨Ho10, Ho11⟩, ⟨Ho20, Ho21⟩, Hoo⟩ := (o_split c _) $$ Ho
  ihave Hb := (b_split c) $$ Hb
  ihave Hy := (y_split c) $$ Hy
  ihave Hwt := (all6_waits c) $$ [Has Har Hcr]
  · isplitl [Has]; · iexact Has
    isplitl [Har] <;> iassumption
  iexists κ
  isplitr
  · isplitr; · iexact HR
    iexact Hlev
  isplitl [HO Ht0 Ht1 Ht2 Ho00 Ho01 Ho10 Ho11 Ho20 Ho21 Hcb Hab]
  · isplitl [HO]; · iexact HO
    isplitl [Ht0 Ht1 Ht2 Ho00 Ho01 Ho10 Ho11 Ho20 Ho21]
    · isplitl [Ht0 Ho00 Ho01]
      · isplitl [Ht0]; · iexact Ht0
        isplitl [Ho00] <;> iassumption
      isplitl [Ht1 Ho10 Ho11]
      · isplitl [Ht1]; · iexact Ht1
        isplitl [Ho10] <;> iassumption
      isplitl [Ht2]; · iexact Ht2
      isplitl [Ho20] <;> iassumption
    isplitl [Hcb] <;> iassumption
  isplitl [Hts Hwt]; · isplitl [Hts] <;> iassumption
  isplitl [Hoo]; · iexact Hoo
  isplitl [Hx Hw Hb Hy]
  · isplitl [Hx]; · iexact Hx
    isplitl [Hw]; · iexact Hw
    isplitl [Hb] <;> iassumption
  iexact Hz

/-- What it holds when its body ends is what it holds after the point. -/
theorem after_of (c : Dev nD) : finish m c ⊢ iprop(after m c ∗ owesE c 0 ∗ xPts m c) := by
  unfold finish after exit zeros
  iintro ⟨HO, Ho, ⟨Hx, Hw, Hb, Hy⟩, ⟨Hbz, Hsz, Hrz⟩, Hz⟩
  ihave Ho := (o_join c (outC m c)) $$ Ho
  ihave Hb := (b_join c) $$ Hb
  ihave Hy := (y_join c) $$ Hy
  isplitr [HO Hx]
  · isplitl [Hw Ho Hbz]
    · isplitl [Hw]; · iexact Hw
      isplitl [Ho] <;> iassumption
    isplitl [Hsz Hrz Hz]
    · isplitl [Hsz Hrz]; · isplitl [Hsz] <;> iassumption
      iexact Hz
    isplitl [Hb] <;> iassumption
  isplitl [HO] <;> iassumption

/-- A staging buffer known to hold `f`. -/
theorem owns_stage (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ f' : Buf (Elt F) ((c : Thread nD τ).loc b), ⌜f' = f⌝ ∗ (((c : Thread nD τ).loc b) ↦{fullShare} f')) := by
  unfold owns; simp only [Memref.view_whole, View.read_whole, View.set_whole]

/-- What the staged left factor holds. -/
abbrev staged (c : Dev nD) (f : (cc0_stg0_0 : Ref sig .tc).ty.Contents (Elt F)) : sProp 𝕄 :=
  iprop(∃ f' : Buf (Elt F) ((c : Thread nD τ).loc cc0_stg0_0), ⌜f' = f⌝ ∗ (((c : Thread nD τ).loc cc0_stg0_0) ↦{fullShare} f'))

/-- Before the body the staging buffer holds the device's left block. -/
theorem before_x (c : Dev nD) (d) : (dats m 0 c).before (0 : Fin 1) t0_0 d = xv m c := by
  unfold Dat.before
  rw [if_pos (fetch0_0 t0_0)]
  rfl

/-- The body at the point: from what is held before it, with the left factor staged, to what is held after it. -/
theorem point (c : Dev nD) :
    iprop(before m c ∗ (dats m 0 c).owesAt () (t0_0 : Fin cfg0.N).castSucc ∗ (∃ d, staged c ((dats m 0 c).before (0 : Fin 1) t0_0 d)))
      ⊢ wp frame (wpE (defs₀ (F := F)) 𝒱₀ (c : Thread nD τ) none) Set.univ
          (cc0_body (F := F) xM (Memref.isWhole_whole _) wM (Memref.isWhole_whole _) oM (Memref.isWhole_whole _) bM
            (Memref.isWhole_whole _) yM (Memref.isWhole_whole _) cc0_scratch2 cc0_scratch3 cc0_scratch4 cc0_scratch5)
          (fun _ => iprop(after m c ∗ (dats m 0 c).owesAt () (t0_0 : Fin cfg0.N).succ ∗ staged c (xv m c))) := by
  rw [body_eq, wp_deviceId]
  unfold Dat.owesAt Pipeline.owesWithin
  iintro ⟨HB, ⟨%W, %hW, HO⟩, ⟨%d, %f, %hf, Hx⟩⟩
  rw [before_x] at hf
  subst hf
  rw [show (dats m 0 c).owed (t0_0 : Fin cfg0.N).castSucc = O₀ c from rfl, show (dats m 0 c).owed (t0_0 : Fin cfg0.N).succ = 0 from rfl]
  ihave Hs := (start_of m c) $$ [HB HO Hx]
  · isplitl [HB]; · iexact HB
    isplitl [HO]; · unfold owesE; iexists W; iexact HO
    unfold xPts; iexact Hx
  icases Hs with ⟨%κ, Hs⟩
  iapply (prog_runs m κ c _) $$ Hs
  iintro Hf
  ihave Hf := (after_of m c) $$ Hf
  unfold owesE xPts
  icases Hf with ⟨Ha, ⟨%W', HO⟩, Hx⟩
  isplitl [Ha]; · iexact Ha
  isplitl [HO]
  · iexists W'
    isplitr; · ipureintro; exact fun _ _ => Or.inl trivial
    iexact HO
  iexists _
  isplitr; · (ipureintro; rfl)
  iexact Hx

set_option maxRecDepth 8000 in
/-- The body keeps the pipeline's side. -/
theorem body_obligation (c : Dev nD) : BodyObligation (dats (F := F) m 0 c) (defs₀ (F := F)) 𝒱₀ () Set.univ := fun t => by
  rw [show t = t0_0 from fin_N0 t]
  rw [show ∀ Φ : Fin cfg0.W → sProp 𝕄, bigSep Finset.univ Φ = Φ (0 : Fin 1) from fun Φ => bigSep_W0 Φ,
    show ∀ Φ : Fin cfg0.W → sProp 𝕄, bigSep Finset.univ Φ = Φ (0 : Fin 1) from fun Φ => bigSep_W0 Φ]
  simp only [owns_stage]
  exact point m c

end Cert.KernelIdealProof
-- ==== Proof.KernelIdeal.Cells.lean ====
/-
# Allocating the cells

Before the run the cells of all devices are allocated at once: every device then knows every cell's invariant, and has
the positions of its own cells and the rights it signals and sends with. The credit the devices owe each other is dealt
to the devices it is owed to.
-/
module

public import proofs.«01_k».proof.Proof.KernelIdeal.Point
public import Idealize.ShloMosaic.Lib.Pipeline.Launch

@[expose] public section

set_option synthInstance.maxSize 4096

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores of a device -/

/-- The semaphores the kernel has of its own: of the loads, of the transfers sent and received, of the local copies. -/
abbrev Sk : Type := Fin 2 ⊕ (X ⊕ X) ⊕ Fin 2
/-- Which semaphore each is. -/
abbrev osem : Sk → SemLoc sig
  | .inl s => .dma (lSem s)
  | .inr (.inl (.inl x)) => .dma (sSem x.1 x.2)
  | .inr (.inl (.inr x)) => .dma (rSem x.1 x.2)
  | .inr (.inr h) => .dma (cSem h)

/-- They are the scoped semaphores besides the staging's, each named once. -/
theorem ownSemFacts : Pipeline.OwnSemFacts cfg0.spec osem := by decide +kernel

/-- The counters of the device's own semaphores. -/
theorem ownSems_eq (c : Dev nD) :
    (Pipeline.ownSems0 (Ix := Unit) (Name := ℕ) (U := UU) (Lvl := ℕ) (Val := Elt F) (τ := τ) osem c : sProp 𝕄)
      = iprop((zero c (lSem 0) ∗ zero c (lSem 1)) ∗ (all6 (fun g h => zero c (sSem g h)) ∗ all6 (fun g h => zero c (rSem g h)))
          ∗ (zero c (cSem 0) ∗ zero c (cSem 1))) := by
  unfold Pipeline.ownSems0
  rw [bigSep_univ_sum, bigSep_univ_sum, bigSep_univ_sum, all6_eq, all6_eq,
    bigSep_univ_eq_bigSepL [(0 : Fin 2), 1] (by decide) (by decide), bigSep_univ_eq_bigSepL [(0 : Fin 2), 1] (by decide) (by decide)]
  rfl

/-- The barrier's semaphore is the one that outlives the kernel. -/
theorem unscopedSems_eq (c : Dev nD) : (unscopedSems0 c : sProp 𝕄) = semVal (barCell c) 0 := by
  unfold unscopedSems0
  rw [bigSep_eq_bigSepL_of_eq [SemLoc.reg barS] (by decide +kernel) (by decide)]
  rfl

/-! ## The launch's element -/

/-- Different cells have different names. -/
theorem kcell_injective : Function.Injective (kcell : Dev nD × Ck → GSem nD τ sig) := fun a b h => by
  have h1 : a.1 = b.1 := congrArg (fun q : GSem nD τ sig => q.1.1) h
  have h2 : some a.2 = some b.2 := by
    rw [← ckOf_csem a.2, ← ckOf_csem b.2]
    exact congrArg (fun q : GSem nD τ sig => ckOf q.2) h
  exact Prod.ext h1 (Option.some.inj h2)
/-- All cells. -/
def cells : Finset (GSem nD τ sig) := Finset.univ.map ⟨kcell, kcell_injective⟩

/-- The duties a device pays: its three signals, that its slots are read out, that its blocks arrive. -/
abbrev Tk : Type := Fin 3 ⊕ (X ⊕ X)
/-- Duty `k` of device `c`: the cell, the round, the payer's name. -/
def tokOf (ck : Dev nD × Tk) : GSem nD τ sig × ℕ × Dev nD :=
  match ck.2 with
  | .inl k => (barCell (sigDev ck.1 k), 0, ck.1)
  | .inr (.inl x) => (sendCell ck.1 x.1 x.2, 0, 0)
  | .inr (.inr x) => (recvCell (peer ck.1 x.1) x.1 x.2, 0, 0)

/-- A device's three signals go to different devices. -/
theorem sigDev_injective : ∀ (c : Dev nD) (k k' : Fin 3), sigDev c k = sigDev c k' → k = k' := by decide +kernel

/-- The cell a duty is at tells what kind of duty it is. -/
theorem tok_kind (a : Dev nD × Tk) : ckOf (tokOf a).1.2 = some (match a.2 with
    | .inl _ => .inl ()
    | .inr (.inl x) => .inr (.inl x)
    | .inr (.inr x) => .inr (.inr x)) := by
  obtain ⟨c, k | x | x⟩ := a
  · exact ck_bar
  · exact ck_send x.1 x.2
  · exact ck_recv x.1 x.2

/-- No duty is listed twice. -/
theorem tokOf_injective : Function.Injective tokOf := fun a b h => by
  have hk := (tok_kind a).symm.trans ((congrArg (fun t : GSem nD τ sig × ℕ × Dev nD => ckOf t.1.2) h).trans (tok_kind b))
  have hd : (tokOf a).1.1.1 = (tokOf b).1.1.1 := congrArg (fun t : GSem nD τ sig × ℕ × Dev nD => t.1.1.1) h
  have hp : (tokOf a).2.2 = (tokOf b).2.2 := congrArg (fun t : GSem nD τ sig × ℕ × Dev nD => t.2.2) h
  obtain ⟨c, k | x | x⟩ := a <;> obtain ⟨c', k' | x' | x'⟩ := b
  · obtain rfl : c = c' := hp
    exact congrArg (fun k => (c, Sum.inl k)) (sigDev_injective c k k' hd)
  · cases hk
  · cases hk
  · cases hk
  · obtain rfl : x = x' := Sum.inl.inj (Sum.inr.inj (Option.some.inj hk))
    exact congrArg (fun c => (c, _)) (show c = c' from hd)
  · cases hk
  · cases hk
  · cases hk
  · obtain rfl : x = x' := Sum.inr.inj (Sum.inr.inj (Option.some.inj hk))
    have e : peer c x.1 = peer c' x.1 := hd
    exact congrArg (fun c => (c, _)) (show c = c' by rw [← peer_peer c x.1, e, peer_peer])
/-- All duties. -/
def tokens : Finset (GSem nD τ sig × ℕ × Dev nD) := Finset.univ.map ⟨tokOf, tokOf_injective⟩

/-- What the launch starts from: the pipeline's cells, and all cells between devices. -/
def u₀ : UU := (initOf (Pipeline.cells cfgs cellOf_inj) (Pipeline.launchToks cfgs cellOf_inj), (initOf cells tokens, 1))

/-- It gives the pipeline its part and the cells between devices theirs. -/
theorem u₀_split : (ownU u₀ : sProp 𝕄)
    ⊢ iprop(BI.own (EP (initOf (Pipeline.cells cfgs cellOf_inj) (Pipeline.launchToks cfgs cellOf_inj))) ∗ BI.own (ER (initOf cells tokens))) :=
  BI.own_op_elim (uEmb.toEmb.op_of_mem (Prod.mk_mem_op (URA.mem_op_one _) (URA.mem_one_op (initOf cells tokens, (1 : Counters)))))

variable (m : (ℓ : Loc nD τ sig) → Buf (Elt F) ℓ)

/-- The rights device `c` signals and sends with. -/
def toks (c : Dev nD) : sProp 𝕄 := bigSep Finset.univ fun k : Tk => dutyTok ER (tokOf (c, k)).1 (tokOf (c, k)).2.1 (tokOf (c, k)).2.2
/-- What the launch's element gives device `c`. -/
def G (c : Dev nD) : sProp 𝕄 :=
  iprop((bigSep Finset.univ fun k : Ck => roundState ER (Rd m) (kcell (c, k)) 0)
    ∗ ((bigSep Finset.univ fun k : Ck => atPos ER (kcell (c, k)) 0 ∅ 0) ∗ bigSep Finset.univ fun k : Ck => reached ER (kcell (c, k)) 0)
    ∗ toks c)

/-- One resource per cell, device by device. -/
theorem cells_list (Φ : GSem nD τ sig → sProp 𝕄) :
    bigSep cells Φ = bigSep Finset.univ fun c : Dev nD => bigSep Finset.univ fun k : Ck => Φ (kcell (c, k)) := by
  unfold cells; rw [bigSep_map, bigSep_univ_prod]; rfl
/-- The rights, device by device. -/
theorem tokens_list : bigSep tokens (fun t => (dutyTok ER t.1 t.2.1 t.2.2 : sProp 𝕄)) = bigSep Finset.univ fun c : Dev nD => toks c := by
  unfold tokens; rw [bigSep_map, bigSep_univ_prod]; rfl

/-- Every device gets its cells' first states, its positions and its rights. -/
theorem fund_cells : BI.own (ER (initOf cells tokens)) ⊢ (|==> bigSep Finset.univ (G m) : sProp 𝕄) := by
  have e : iprop(bigSep cells (fun g => roundState ER (Rd m) g 0) ∗ bigSep cells (fun g => reached ER g 0)
      ∗ bigSep cells (fun g => atPos ER g 0 ∅ 0) ∗ bigSep tokens (fun t => dutyTok ER t.1 t.2.1 t.2.2)) ⊢ bigSep Finset.univ (G m) := by
    unfold G
    rw [cells_list, cells_list, cells_list, tokens_list, bigSep_sep', bigSep_sep', bigSep_sep']
    iintro ⟨Hst, Hr, Hat, Htok⟩
    isplitl [Hst]; · iexact Hst
    isplitl [Hat Hr]
    · isplitl [Hat] <;> iassumption
    iexact Htok
  exact (Rounds.fund ER (Rd m) cells tokens).trans (BI.bupd_mono e)

/-! ## The allocation -/

/-- One resource per cell of a device. -/
theorem ck_list (Φ : Ck → sProp 𝕄) : bigSep Finset.univ Φ
    = iprop(Φ (.inl ()) ∗ all6 (fun g h => Φ (.inr (.inl (g, h)))) ∗ all6 (fun g h => Φ (.inr (.inr (g, h))))) := by
  rw [bigSep_univ_sum, bigSep_univ_sum, all6_eq, all6_eq, bigSep_univ_eq_bigSepL [()] (by decide) (by decide)]
  rfl

/-- The counters of the device's transfers within itself. -/
def local0 (c : Dev nD) : sProp 𝕄 := iprop(zero c (lSem 0) ∗ zero c (lSem 1) ∗ zero c (cSem 0) ∗ zero c (cSem 1))

/-- The counters at zero are those of the cells, and the others. -/
theorem sems_split (c : Dev nD) :
    iprop(Pipeline.ownSems0 (Ix := Unit) (Name := ℕ) (U := UU) (Lvl := ℕ) (Val := Elt F) (τ := τ) osem c ∗ unscopedSems0 c)
      ⊢ iprop((bigSep Finset.univ fun k : Ck => semVal (kcell (c, k)) 0) ∗ local0 c : sProp 𝕄) := by
  rw [ownSems_eq, unscopedSems_eq, ck_list]
  unfold local0
  iintro ⟨⟨⟨H0, H1⟩, ⟨HS, HR⟩, H2, H3⟩, HB⟩
  isplitl [HB HS HR]
  · isplitl [HB]; · iexact HB
    isplitl [HS]; · iexact HS
    iexact HR
  isplitl [H0]; · iexact H0
  isplitl [H1]; · iexact H1
  isplitl [H2] <;> iassumption

/-- What device `c` keeps of the allocation for itself. -/
def kept (c : Dev nD) : sProp 𝕄 := iprop((bigSep Finset.univ fun k : Ck => atPos ER (kcell (c, k)) 0 ∅ 0) ∗ toks c ∗ local0 c)

/-- A device's cells allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Ck => iprop(∃ κ : ℕ, cellInv ER (Rd m) κ (kcell (c, k))))
          ∗ (bigSep Finset.univ fun k : Ck => reached ER (kcell (c, k)) 0) ∗ kept c) := by
  unfold G kept
  iintro ⟨Hos, Hus, Hst, ⟨Hat, Hr⟩, Htok⟩
  ihave Hv := (sems_split (F := F) c) $$ [Hos Hus]
  · isplitl [Hos] <;> iassumption
  icases Hv with ⟨Hv, Hloc⟩
  imod (show iprop((bigSep Finset.univ fun k : Ck => semVal (kcell (c, k)) 0) ∗ bigSep Finset.univ fun k : Ck => roundState ER (Rd m) (kcell (c, k)) 0)
      ⊢ (|={Set.univ}=> bigSep Finset.univ fun k : Ck => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok] <;> iassumption

/-- The rights of a device, listed. -/
theorem toks_list (c : Dev nD) : (toks c : sProp 𝕄) = iprop((dutyTok ER (barCell (sigDev c 0)) 0 c ∗ dutyTok ER (barCell (sigDev c 1)) 0 c
    ∗ dutyTok ER (barCell (sigDev c 2)) 0 c) ∗ all6 (sendTok c)) := by
  rw [show (all6 (sendTok c) : sProp 𝕄) = _ from all6_sep _ _, all6_eq, all6_eq]
  unfold toks
  rw [bigSep_univ_sum, bigSep_univ_sum, bigSep_univ_eq_bigSepL [(0 : Fin 3), 1, 2] (by decide) (by decide)]
  rfl

/-- What a device keeps, listed. -/
theorem ghost_of (κ : Dev nD × Ck → ℕ) (c : Dev nD) : iprop(records m κ ∗ kept c) ⊢ ghost m c := by
  unfold kept ghost local0
  rw [ck_list, toks_list]
  iintro ⟨HR, Hat, Ht, Hl⟩
  isplitl [HR]; · iexists κ; iexact HR
  isplitl [Ht]; · iexact Ht
  isplitl [Hat]; · iexact Hat
  iexact Hl

/-- What all share goes to each. -/
theorem share_all {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- The cells of all devices, known to each. -/
theorem regroup :
    (bigSep Finset.univ fun c : Dev nD => iprop((bigSep Finset.univ fun k : Ck => iprop(∃ κ : ℕ, cellInv ER (Rd m) κ (kcell (c, k))))
          ∗ (bigSep Finset.univ fun k : Ck => reached ER (kcell (c, k)) 0) ∗ kept c) : sProp 𝕄)
      ⊢ bigSep Finset.univ (ghost m) := by
  rw [bigSep_sep', bigSep_sep', ← bigSep_univ_prod (fun ck : Dev nD × Ck => iprop(∃ κ : ℕ, cellInv ER (Rd m) κ (kcell ck))),
    ← bigSep_univ_prod (fun ck : Dev nD × Ck => (reached ER (kcell ck) 0 : sProp 𝕄))]
  iintro ⟨HI, #Hr, Hk⟩
  ihave HI := (BI.bigSep_exists_pi Finset.univ (fun (ck : Dev nD × Ck) (κ : ℕ) => (cellInv ER (Rd m) κ (kcell ck) : sProp 𝕄))) $$ HI
  icases HI with ⟨%κ, #HI⟩
  iapply (share_all (R := records m κ) fun c => ghost_of m κ c)
  isplitr
  · unfold records
    isplitl; · iexact HI
    iexact Hr
  iexact Hk

/-- The allocation of all devices' cells. -/
theorem alloc_all : (bigSep Finset.univ fun c => iprop(Pipeline.ownSems0 (Ix := Unit) (Name := ℕ) (U := UU) (Lvl := ℕ) (Val := Elt F) (τ := τ) osem c
      ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The credit -/

/-- The credit of the transfers `(g, h)`: each device is owed by its peer. -/
theorem credit_recv (g : Fin 3) (h : Fin 2) (c : Dev nD) :
    (Pipeline.launchCred (fun d => tallyAt (recvCell (peer d g) g h) () N) c : sProp 𝕄) ⊢ cred (tallyAt (recvCell c g h) () N) :=
  Pipeline.launchCred_tallyAt (.dma (rSem g h)) (fun d => peer d g) (fun d => peer d g) (fun d => peer_peer d g) (fun d => peer_peer d g) () N c
/-- The credit of the `k`-th signals. -/
theorem credit_bar (k : Fin 3) (c : Dev nD) :
    (Pipeline.launchCred (fun d => tallyAt (barCell (sigDev d k)) () 1) c : sProp 𝕄) ⊢ cred (tallyAt (barCell c) () 1) :=
  Pipeline.launchCred_tallyAt (.reg barS) (fun d => sigDev d k) (fun d => sigFrom d k) (fun d => sig_from d k) (fun d => from_sig d k) () 1 c

/-- The credit of one more transfer still to be sent. -/
theorem credit_rem (n : ℕ) (c : Dev nD) : (Pipeline.launchCred (fun d => rem d (n + 1)) c : sProp 𝕄)
    ⊢ iprop(Pipeline.launchCred (fun d => rem d n) c ∗ cred (tallyAt (recvCell c (xg (5 - n)) (xh (5 - n))) () N)) :=
  (Entails.of_eq (Pipeline.launchCred_add (fun d => rem d n) (fun d => tallyAt (recvCell (peer d (xg (5 - n))) (xg (5 - n)) (xh (5 - n))) () N) c)).trans
    (sep_mono_right (credit_recv _ _ c))
/-- The credit of one more signal still to be sent. -/
theorem credit_bars (n : ℕ) (c : Dev nD) : (Pipeline.launchCred (fun d => bars d (n + 1)) c : sProp 𝕄)
    ⊢ iprop(Pipeline.launchCred (fun d => bars d n) c ∗ cred (tallyAt (barCell c) () 1)) :=
  (Entails.of_eq (Pipeline.launchCred_add (fun d => bars d n) (fun d => tallyAt (barCell (sigDev d ⟨2 - n, by omega⟩)) () 1) c)).trans
    (sep_mono_right (credit_bar _ c))

/-- Three units at a cell. -/
theorem three (q : GSem nD τ sig) : iprop(cred (tallyAt q () 1) ∗ cred (tallyAt q () 1) ∗ cred (tallyAt q () 1)) ⊢ (cred (tallyAt q () 3) : sProp 𝕄) := by
  rw [show (tallyAt q () 3 : CellTallies nD τ sig Unit) = tallyAt q () 1 + (tallyAt q () 1 + tallyAt q () 1) by rw [tallyAt_add, tallyAt_add]]
  iintro ⟨H0, H1⟩
  iapply (cred_add _ _).2
  isplitl [H0]; · iexact H0
  iapply (cred_add _ _).2
  iexact H1

/-- The credit of a launch, dealt. -/
theorem credits_of (c : Dev nD) : (Pipeline.launchCred O₀ c : sProp 𝕄) ⊢ credits c := by
  iintro H
  ihave ⟨H, B0⟩ := (credit_bars 2 c) $$ H
  ihave ⟨H, B1⟩ := (credit_bars 1 c) $$ H
  ihave ⟨H, B2⟩ := (credit_bars 0 c) $$ H
  ihave H := (Entails.of_eq (show (Pipeline.launchCred (fun d => bars d 0) c : sProp 𝕄) = Pipeline.launchCred (fun d => rem d 6) c from rfl)) $$ H
  ihave ⟨H, C0⟩ := (credit_rem 5 c) $$ H
  ihave ⟨H, C1⟩ := (credit_rem 4 c) $$ H
  ihave ⟨H, C2⟩ := (credit_rem 3 c) $$ H
  ihave ⟨H, C3⟩ := (credit_rem 2 c) $$ H
  ihave ⟨H, C4⟩ := (credit_rem 1 c) $$ H
  ihave ⟨H, C5⟩ := (credit_rem 0 c) $$ H
  unfold credits all6
  isplitl [B0 B1 B2]
  · iapply (three (F := F) (barCell c))
    isplitl [B0]; · iexact B0
    isplitl [B1] <;> iassumption
  isplitl [C0]; · iexact C0
  isplitl [C1]; · iexact C1
  isplitl [C2]; · iexact C2
  isplitl [C3]; · iexact C3
  isplitl [C4]; · iexact C4
  iexact C5

end Cert.KernelIdealProof
-- ==== Proof.KernelIdeal.Run.lean ====
/-
# The run

The kernel runs on every device: it ends, the arguments are as before, the result of device `d` is `outC m d`, and every
semaphore's counter is at zero.
-/
module

public import proofs.«01_k».proof.Proof.KernelIdeal.Cells
public import Idealize.ShloMosaic.Lib.Pipeline.CollectiveSegs

@[expose] public section

set_option synthInstance.maxSize 4096

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Every device enters with its share of the cells, its credit, the weights and its result. -/
theorem enters (ρ : Dev nD → PrngReg) (c : Dev nD) :
    iprop(Pipeline.unscopedRestP (Pipeline.Prefetch.none) cfg0.spec c (fun b => m ((c.tc : Thread nD τ).loc b)) ∗ levAts L lv
        ∗ Pipeline.launchCred O₀ c ∗ prngReg c (ρ c) ∗ ghost m c)
      ⊢ |={Set.univ}=> iprop(entry m c ∗ emp : sProp 𝕄) := by
  rw [Pipeline.unscopedRestP_none, unscopedRest0_eq]
  iintro ⟨⟨Hw, Ho⟩, HL, Hc, -, Hg⟩
  ihave Hc := (credits_of (F := F) c) $$ Hc
  imodintro
  isplitl
  · unfold entry wPts oAll
    isplitl [Hg]; · iexact Hg
    isplitl [Hc]; · iexact Hc
    isplitl [HL]; · iexact HL
    isplitl [Hw]; · iexact Hw
    iexact Ho
  iempintro

/-- The kernel starts with the two scratch buffers. -/
theorem starts (c : Dev nD) : iprop(entry m c ∗ Pipeline.prefHeld (Pipeline.Prefetch.none (sig := sig)) c (fun _ => fullShare.right) (fun k => k.elim0)
      ∗ Pipeline.scopedRest cfg0.spec c) ⊢ (before m c : sProp 𝕄) := by
  rw [scopedRest0_eq]
  unfold before bAll yAll
  iintro ⟨He, -, Hb, Hy⟩
  isplitl [He]; · iexact He
  isplitl [Hb]; · iexact Hb
  iexact Hy

/-- It ends with its counters at zero and gives the buffers back. -/
theorem ends (c : Dev nD) : (after m c : sProp 𝕄) ⊢ iprop(exit m c ∗ Pipeline.ownSems0 osem c ∗ Pipeline.scopedRest cfg0.spec c) := by
  rw [scopedRest0_eq, ownSems_eq]
  unfold after zeros bAll yAll
  iintro ⟨He, ⟨Hx, H0, H1, H2, H3⟩, Hb, Hy⟩
  isplitl [He]; · iexact He
  isplitl [Hx H0 H1 H2 H3]
  · isplitl [H0 H1]
    · isplitl [H0] <;> iassumption
    isplitl [Hx]; · iexact Hx
    isplitl [H2] <;> iassumption
  isplitl [Hb]; · iexact Hb
  iexact Hy

/-- What the last state of device `c` shows. -/
def Shown (c : Dev nD) (s : MemSt nD τ sig (Elt F)) : Prop :=
  s.mem ((c.tc : Thread nD τ).loc main_arg1) = m ((c.tc : Thread nD τ).loc main_arg1) ∧ s.mem ((c.tc : Thread nD τ).loc main_v1) = outC m c
    ∧ ∀ sm : SemLoc sig, sm.isScoped .tc = false → s.sem ((c.tc : Thread nD τ), sm) = 0

/-- What a device holds at the end shows in the last state. -/
theorem shows (c : Dev nD) (st : Phys nD τ sig (Elt F)) :
    iprop(exit m c ∗ emp ∗ SI st) ⊢ |={Set.univ}=> iprop(⌜Shown m c st.mem⌝ ∗ SI st : sProp 𝕄) := by
  unfold exit wPts oAll
  iintro ⟨⟨Hw, Ho, Hb⟩, -, HSI⟩
  ihave %hw := (SI_pointsTo_agree (st := st) (ℓ := (c.tc : Thread nD τ).loc main_arg1) (I := Finset.univ)) $$ [HSI Hw]
  · isplitl [HSI] <;> iassumption
  ihave %ho := (SI_pointsTo_agree (st := st) (ℓ := (c.tc : Thread nD τ).loc main_v1) (I := Finset.univ)) $$ [HSI Ho]
  · isplitl [HSI] <;> iassumption
  imod (Pipeline.unscopedSems0_read (X := semVal (barCell c) 0) (c := c) (by rw [unscopedSems_eq]; exact fupd_intro) st) $$ [Hb HSI] with ⟨%hs, HSI⟩
  · isplitl [Hb] <;> iassumption
  imodintro
  isplitr [HSI]
  · ipureintro
    exact ⟨funext fun i => hw i (Finset.mem_univ i), funext fun i => ho i (Finset.mem_univ i), hs⟩
  iexact HSI

set_option maxRecDepth 8000 in
/-- The kernel's run. -/
theorem run (ρ : Dev nD → PrngReg) : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1) = outC m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl) (hbody := body_obligation m)
    (hne := block_pos0) (harr := arr_whole0) (hstage := stage_whole0)
    (hshare := fun c w => by unfold Pipeline.Dat.share; split <;> rfl) (hdistinct := winFacts0.arr_inj)
    (O₀ := O₀) (howed₀ := fun _ => rfl) (howedN := fun _ => rfl) (L := L) (lv := lv) (hL := L_of_ne)
    (hwaits := fun c => Pipeline.cellsWaits_intro cfgs (dats m) () 0 c fun w s t => mayWait_low c _ (by fin_cases w; fin_cases s; rfl) (by
      fin_cases t
      · exact low_bars c 3
      · exact low_zero))
    (G := G m) (G' := ghost m) (u₀ := u₀)
    (hu₀ := by
      iintro Hu
      ihave H := (u₀_split (F := F)) $$ Hu
      icases H with ⟨HP, HX⟩
      imod (fund_cells m) $$ HX with HG
      imodintro
      isplitl [HP] <;> iassumption)
    (hglob := alloc_all m) (hA := fun _ _ => rfl) (hpf := fun _ k => k.elim0)
    (X := entry m) (Y := exit m) (Z := fun _ => iprop(emp)) (hX := enters m ρ) (hin := starts m) (hout := ends m)
    (QY := Shown m) (hY := shows m)
    (hQ := fun _ h hs => ⟨fun c => ⟨((h c).1 0).trans ((dats m 0 c).arrAt_in (0 : Fin 1) rfl _), (h c).2.2.1, (h c).2.2.2.1⟩,
      sem_eq_zero hs fun c => (h c).2.2.2.2⟩)

end Cert.KernelIdealProof
-- ==== Proof.Value.Block.lean ====
/-
# One product block

Over the reals a block of the product, as the kernel computes it, is the sum of products over the inner dimension.
Its column block of the right factor is one of the receiving device's columns.
-/
module

public import proofs.«01_k».proof.Proof.KernelIdeal.Contents
public import Idealize.ShloMosaic.Lib.MatmulPlain
public import Idealize.ShloMosaic.Lib.KernelVsHost
public import Idealize.ShloMosaic.Lib.StackMember

@[expose] public section

noncomputable section

namespace Cert.BlockValue

open Cert.KernelIdeal Cert.KernelIdeal.Gen Cert.KernelIdealProof
open Idealize.ShloMosaic Idealize.ShloMosaic.TcCoe Idealize.ShloMosaic.ValueIdx Idealize.SL.Sem

variable (m : (ℓ : Loc nD τ sig) → Buf (Elt Ideal) ℓ)

/-- A device's block of the left factor. -/
abbrev lhs (c : Dev nD) : FVec Ideal S1024x4096 .bf16 := m ((c : Thread nD τ).loc main_arg0)
/-- A device's copy of the right factor. -/
abbrev rhs (c : Dev nD) : FVec Ideal S4096x8192 .f32 := m ((c : Thread nD τ).loc main_arg1)

/-- The left block a device reads is its whole argument. -/
theorem xv_apply (c : Dev nD) (p : Fin 1024) (k : Fin 4096) : xv m c (ix2 p k) = lhs m c (ix2 p k) := by
  refine congrArg (lhs m c) (funext fun a => Fin.ext ?_)
  fin_cases a
  · show 0 * 1024 + 1 * p.val = p.val
    omega
  · show 0 * 4096 + 1 * k.val = k.val
    omega

/-- A column block of the right factor, by coordinates. -/
theorem wv_apply (c : Dev nD) (t : Fin 16) (k : Fin 4096) (r : Fin 512) (j : Fin 8192) (hj : woff c t 1 + r.val = j.val)
    (h0 : woff c t 0 = 0) : wv m c t (ix2 k r) = rhs m c (ix2 k j) := by
  refine congrArg (rhs m c) (funext fun a => Fin.ext ?_)
  show ((wRect c t).emb _ a).val = _
  rw [Rect.emb_apply]
  fin_cases a
  · show woff c t 0 + 1 * k.val = k.val
    omega
  · show woff c t 1 + 1 * r.val = j.val
    omega

/-- An element of a product block is the sum of the products over the inner dimension. -/
theorem tile_apply (c : Dev nD) (t : Fin 16) (p : Fin 1024) (r : Fin 512) :
    tile m c t (ix3 (0 : Fin 1) p r) = ∑ k : Fin 4096, xv m c (ix2 p k) * wv m c t (ix2 k r) := by
  unfold tile k0_pay1
  rw [shapeCast_ab_1ab_apply, matmul_zero_eq_dotGeneral, shapeCast_self]
  refine (StackMember.dotGeneral_plain_apply none (xv m c) (truncf .bf16 (shapeCast S4096x512 (lift3 (wv m c t)) shapeCasts_S1x4096x512_S4096x512) bitsLt_bf16_f32) p r).trans ?_
  refine Finset.sum_congr rfl fun k _ => congrArg (xv m c (ix2 p k) * ·) ?_
  exact shapeCast_1ab_ab_apply (lift3 (wv m c t)) shapeCasts_S1x4096x512_S4096x512 k r

/-- The column block of a walk that fills half `u` of the slot for device `d`'s column half `h`. -/
def walkAt (s d : Dev nD) (h u : Fin 2) : Fin 16 := ⟨2 * (srcSlot s d h).val + u.val, by omega⟩

/-- It starts at that quarter of device `d`'s columns, and takes all rows. -/
theorem woff_at : ∀ (s d : Dev nD) (h u : Fin 2),
    woff s (walkAt s d h u) 0 = 0 ∧ woff s (walkAt s d h u) 1 = 2048 * d.val + 1024 * h.val + 512 * u.val := by decide +kernel

/-- Two blocks side by side, at a column of the one or the other. -/
theorem join_at (a : Fin 2 → FVec Ideal S1x1024x512 .bf16) (p q : Fin 1024) (u : Fin 2) (r : Fin 512) (hq : q.val = 512 * u.val + r.val) :
    joinAt (a 0) (a 1) p q = a u (ix3 (0 : Fin 1) p r) := by
  have hr := r.isLt
  unfold joinAt
  fin_cases u
  · rw [dif_pos (by simpa [hq] using hr)]
    exact congrArg (fun z => a 0 (ix3 (0 : Fin 1) p z)) (Fin.ext (by simpa using hq))
  · rw [dif_neg (by simp at hq; omega)]
    exact congrArg (fun z => a 1 (ix3 (0 : Fin 1) p z)) (Fin.ext (by simp at hq ⊢; omega))

/-- What device `s` gathers for device `d`: rows of its left block times columns of `d`. -/
theorem slot_apply (s d : Dev nD) (h : Fin 2) (p q : Fin 1024) (j : Fin 8192) (hj : 2048 * d.val + 1024 * h.val + q.val = j.val) :
    slotVal m s (srcSlot s d h) (ix2 p q)
      = ∑ k : Fin 4096, lhs m s (ix2 p k) * rhs m s (ix2 k j) := by
  have hq := q.isLt
  let u : Fin 2 := ⟨q.val / 512, by omega⟩
  let r : Fin 512 := ⟨q.val % 512, Nat.mod_lt _ (by decide)⟩
  have hqr : q.val = 512 * u.val + r.val := (Nat.div_add_mod _ _).symm
  obtain ⟨w0, w1⟩ := woff_at s d h u
  refine (join_at (fun u => tile m s (walkAt s d h u)) p q u r hqr).trans ?_
  refine (tile_apply m s (walkAt s d h u) p r).trans (Finset.sum_congr rfl fun k _ => ?_)
  rw [xv_apply, wv_apply m s (walkAt s d h u) k r j (by rw [w1]; omega) w0]

end Cert.BlockValue
-- ==== Proof.Value.Reference.lean ====
/-
# What the reference computes

The reference multiplies the whole arrays: over the reals an element of its result is the sum of products over the
inner dimension. It ends with its arguments unchanged and has no semaphores.
-/
module

public import proofs.«01_k».proof.Proof.Gen.ReferenceIdeal.Run
public import Idealize.ShloMosaic.Lib.Quiescent
public import Idealize.ShloMosaic.Lib.StackMember

@[expose] public section

noncomputable section

namespace Cert.ReferenceValue

open Cert.ReferenceIdeal Cert.ReferenceIdeal.Gen
open Idealize.ShloMosaic Idealize.ShloMosaic.TcCoe Idealize.ShloMosaic.ValueIdx Idealize.SL.Sem

/-- The product of two whole arrays. -/
def product (x : FVec Ideal S4096x4096 .bf16) (w : FVec Ideal S4096x8192 .f32) : FVec Ideal S4096x8192 .bf16 :=
  truncf .bf16 (Host.dotGeneral dot_S4096x4096_S4096x8192_S4096x8192_1_0_0_1_n_n none x w) bitsLt_bf16_f32

/-- An element of the product is the sum of the products over the inner dimension. -/
theorem product_apply (x : FVec Ideal S4096x4096 .bf16) (w : FVec Ideal S4096x8192 .f32) (i : Fin 4096) (j : Fin 8192) :
    product x w (ix2 i j) = ∑ k : Fin 4096, x (ix2 i k) * w (ix2 k j) :=
  StackMember.dotGeneral_plain_apply none x w i j

/-- The reference's run: its result is the product of its arguments, which are unchanged, and no counter moves. -/
theorem run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c : Thread nD τ).loc main_v1) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨h, sem_eq_zero_of_no_sems rfl r.2⟩) (Value.run m ρ)

end Cert.ReferenceValue
-- ==== Proof.Value.Equation.lean ====
/-
# The equation

What the kernel leaves on device `d` is block `d` of the reference's columns, when every device starts with its block
of the left factor's rows and the whole right factor.
-/
module

public import proofs.«01_k».proof.Proof.Value.Block
public import proofs.«01_k».proof.Proof.Value.Reference
public import Idealize.ShloMosaic.Lib.Layout

@[expose] public section

noncomputable section

namespace Cert.Equation

open Cert.KernelIdeal Cert.KernelIdealProof
open Idealize.ShloMosaic Idealize.ShloMosaic.TcCoe Idealize.ShloMosaic.ValueIdx Idealize.SL.Sem

/-- A row block of an array, by coordinates. -/
theorem rows_apply {α : Type} (c : Fin 4) (v : (⟨2, ![4096, 4096]⟩ : Shape).Idx → α) (p : Fin 1024) (k : Fin 4096) (i : Fin 4096)
    (hi : 1024 * c.val + p.val = i.val) : Layout.block ⟨2, ![1024, 4096]⟩ ⟨2, ![4096, 4096]⟩ 0 4 c v (by decide) (ix2 p k) = v (ix2 i k) := by
  rw [Layout.block_apply]
  refine congrArg v (funext fun a => Fin.ext ?_)
  fin_cases a
  · show c.val * 1024 + p.val = i.val
    omega
  · rfl

/-- A column block of an array, by coordinates. -/
theorem cols_apply {α : Type} (c : Fin 4) (v : (⟨2, ![4096, 8192]⟩ : Shape).Idx → α) (i : Fin 4096) (q : Fin 2048) (j : Fin 8192)
    (hj : 2048 * c.val + q.val = j.val) : Layout.block ⟨2, ![4096, 2048]⟩ ⟨2, ![4096, 8192]⟩ 1 4 c v (by decide) (ix2 i q) = v (ix2 i j) := by
  rw [Layout.block_apply]
  refine congrArg v (funext fun a => Fin.ext ?_)
  fin_cases a
  · rfl
  · show c.val * 2048 + q.val = j.val
    omega

variable (m : (ℓ : Loc nD τ sig) → Buf (Elt Ideal) ℓ)

/-- Device `d`'s result is its block of columns of the whole product. -/
theorem result (x : FVec Ideal ⟨2, ![4096, 4096]⟩ .bf16) (w : FVec Ideal ⟨2, ![4096, 8192]⟩ .f32)
    (hx : ∀ c : Dev nD, m ((c : Thread nD τ).loc main_arg0) = Layout.block ⟨2, ![1024, 4096]⟩ ⟨2, ![4096, 4096]⟩ 0 4 c x)
    (hw : ∀ c : Dev nD, m ((c : Thread nD τ).loc main_arg1) = w) (d : Dev nD) :
    outC m d = Layout.block ⟨2, ![4096, 2048]⟩ ⟨2, ![4096, 8192]⟩ 1 4 d (Cert.ReferenceValue.product x w) := by
  have key : ∀ (i : Fin 4096) (q : Fin 2048), outC m d (ix2 i q)
      = Layout.block ⟨2, ![4096, 2048]⟩ ⟨2, ![4096, 8192]⟩ 1 4 d (Cert.ReferenceValue.product x w) (by decide) (ix2 i q) := by
    intro i q
    have hi := i.isLt
    have hq := q.isLt
    have hd : d.val < 4 := d.isLt
    rw [cols_apply d _ i q ⟨2048 * d.val + q.val, by omega⟩ rfl, Cert.ReferenceValue.product_apply]
    refine (Cert.BlockValue.slot_apply m ⟨i.val / 1024, show _ < 4 by omega⟩ d ⟨q.val / 1024, by omega⟩ ⟨i.val % 1024, by omega⟩
      ⟨q.val % 1024, by omega⟩ ⟨2048 * d.val + q.val, by omega⟩ (by show 2048 * d.val + 1024 * (q.val / 1024) + q.val % 1024 = 2048 * d.val + q.val; omega)).trans ?_
    refine Finset.sum_congr rfl fun k _ => ?_
    rw [show Cert.BlockValue.lhs m _ = _ from hx _, show Cert.BlockValue.rhs m _ = _ from hw _, rows_apply _ x _ k i (by show 1024 * (i.val / 1024) + i.val % 1024 = i.val; omega)]
  funext i
  rw [eq_ix2 i]
  exact key _ _

end Cert.Equation
-- ==== Proof.lean ====
/-
# The claims

The kernel and its reading over the reals run, end with their arguments unchanged and leave every counter at zero; so
does the reference; and over the reals every device's result is its block of columns of the reference's.
-/
module

public import proofs.«01_k».proof.Defs
public import proofs.«01_k».proof.Proof.Kernel.Run
public import proofs.«01_k».proof.Proof.KernelIdeal.Run
public import proofs.«01_k».proof.Proof.Value.Equation
public import proofs.«01_k».proof.Proof.Gen.ReferenceIdeal.Run

@[expose] public section

noncomputable section

namespace Cert.Proof

open Idealize.ShloMosaic Idealize.SL.Sem

/-- The kernel runs and keeps its arguments. -/
theorem kernel : Cert.quiescent_Kernel (hKernel := Cert.Kernel.Gen.facts) := fun m ρ _ =>
  (θ_run Cert.Kernel.defs _ _).mono (fun _ h => ⟨fun c => ⟨(h.1 c).1, (h.1 c).2.1⟩, h.2⟩) (Cert.KernelProof.run m ρ)

/-- So does the kernel over the reals. -/
theorem kernelIdeal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Cert.KernelIdealProof.run m ρ)

/-- So does the reference. -/
theorem reference : Cert.quiescent_ReferenceIdeal (hReferenceIdeal := Cert.ReferenceIdeal.Gen.facts) := fun m ρ _ =>
  (θ_run Cert.ReferenceIdeal.defs _ _).mono (fun _ h => ⟨fun c => (h.1 c).2, h.2⟩) (Cert.ReferenceValue.run m ρ)

/-- Over the reals every device's result is its block of columns of the reference's. -/
theorem algebraic : Cert.algebraic_KernelIdeal_ReferenceIdeal (hKernelIdeal := Cert.KernelIdeal.Gen.facts)
    (hReferenceIdeal := Cert.ReferenceIdeal.Gen.facts) := fun m ρ m' ρ' _ hm =>
  ⟨Cert.ReferenceValue.product (m' ((0 : Dev Cert.ReferenceIdeal.nD).tc.loc Cert.ReferenceIdeal.main_arg0))
      (m' ((0 : Dev Cert.ReferenceIdeal.nD).tc.loc Cert.ReferenceIdeal.main_arg1)),
    (θ_run Cert.KernelIdeal.defs _ _).mono (fun _ h c => ⟨(h.1 c).2.2.trans (Cert.Equation.result m _ _ (fun c => (hm c).1) (fun c => (hm c).2) c),
      (h.1 c).1, (h.1 c).2.1⟩) (Cert.KernelIdealProof.run m ρ),
    (θ_run Cert.ReferenceIdeal.defs _ _).mono (fun _ h => h.1 0) (Cert.ReferenceValue.run m' ρ')⟩

/-- All claims. -/
theorem claim : Cert.Claim := ⟨Cert.Kernel.Gen.facts, Cert.KernelIdeal.Gen.facts, Cert.ReferenceIdeal.Gen.facts,
  kernel, kernelIdeal, reference, trivial, algebraic⟩

end Cert.Proof

end
